-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_in_range [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_in_range [hPre_lengths_in_range : Cert.Pre_lengths_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_lengths_in_range [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lengths_in_range [hReferenceIdeal : Cert.ReferenceIdeal.Facts] [hPre_lengths_in_range : Cert.Pre_lengths_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_lengths_in_range [hKernelIdeal : Cert.KernelIdeal.Facts] [hReferenceIdeal : Cert.ReferenceIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_lengths_in_range : Cert.Pre_lengths_in_range.Facts),
    quiescent_Kernel (hKernel := hKernel)
    ∧ quiescent_KernelIdeal (hKernelIdeal := hKernelIdeal)
    ∧ quiescent_KernelIdeal_pre_lengths_in_range (hKernelIdeal := hKernelIdeal) (hPre_lengths_in_range := hPre_lengths_in_range)
    ∧ quiescent_ReferenceIdeal (hReferenceIdeal := hReferenceIdeal)
    ∧ quiescent_ReferenceIdeal_pre_lengths_in_range (hReferenceIdeal := hReferenceIdeal) (hPre_lengths_in_range := hPre_lengths_in_range)
    ∧ preserves_Kernel_KernelIdeal
    ∧ algebraic_KernelIdeal_ReferenceIdeal_pre_lengths_in_range (hKernelIdeal := hKernelIdeal) (hReferenceIdeal := hReferenceIdeal) (hPre_lengths_in_range := hPre_lengths_in_range)
-- ==== Pre_lengths_in_range.lean ====
abbrev S8x2048x128 : Shape := ⟨3, ![8, 2048, 128]⟩
abbrev S8x8 : Shape := ⟨2, ![8, 8]⟩
abbrev S_ : Shape := ⟨0, ![]⟩

class Facts : Prop where
  bcast_S_S8x8 : S_.BroadcastsInDim S8x8 (![] : Fin 0 → Fin S8x8.rank)
  reducesTo_S8x8_S_d0_1 : S8x8.ReducesTo [0, 1] S_
  h_S_ : 0 < S_.numel

variable [Facts]

def fn {F : FTy → Type} [FloatOps F] (main_arg0 : FVec F S8x2048x128 .f32) (main_arg1 : IVec S8x8 32) : IVec S_ 1 :=
  let main_c : IVec S_ 32 := constantI S_ 32 0#32
  let main_v0 : IVec S8x8 32 := broadcastInDim S8x8 ![] bcast_S_S8x8 main_c
  let main_v1 : IVec S8x8 1 := cmpi .sge main_arg1 main_v0
  let main_c_0 : IVec S_ 32 := constantI S_ 32 512#32
  let main_v2 : IVec S8x8 32 := broadcastInDim S8x8 ![] bcast_S_S8x8 main_c_0
  let main_v3 : IVec S8x8 1 := cmpi .slt main_arg1 main_v2
  let main_v4 : IVec S8x8 1 := andi main_v1 main_v3
  let main_c_1 : IVec S_ 1 := constantI S_ 1 1#1
  let main_v5 : IVec S_ 1 := (fun x v => Host.reduce IntOp.andi x v reducesTo_S8x8_S_d0_1 h_S_) main_v4 main_c_1
  main_v5
-- ==== Kernel.lean ====
abbrev S8x2048x128 : Shape := ⟨3, ![8, 2048, 128]⟩
abbrev S8x8 : Shape := ⟨2, ![8, 8]⟩
abbrev S64 : Shape := ⟨1, ![64]⟩
abbrev S8x8x128 : Shape := ⟨3, ![8, 8, 128]⟩
abbrev S16 : Shape := ⟨1, ![16]⟩
abbrev S512x128 : Shape := ⟨2, ![512, 128]⟩
abbrev S8x128 : Shape := ⟨2, ![8, 128]⟩
abbrev S4x2x128 : Shape := ⟨3, ![4, 2, 128]⟩
abbrev S2x128 : Shape := ⟨2, ![2, 128]⟩
abbrev S16x8x128 : Shape := ⟨3, ![16, 8, 128]⟩
abbrev S_ : Shape := ⟨0, ![]⟩
abbrev S256x128 : Shape := ⟨2, ![256, 128]⟩
abbrev S1x256x128 : Shape := ⟨3, ![1, 256, 128]⟩
abbrev S1x16 : Shape := ⟨2, ![1, 16]⟩
abbrev S1x8x128 : Shape := ⟨3, ![1, 8, 128]⟩
abbrev S1x1x16 : Shape := ⟨3, ![1, 1, 16]⟩
abbrev S1x128 : Shape := ⟨2, ![1, 128]⟩
abbrev S128 : Shape := ⟨1, ![128]⟩
abbrev S1x1x128 : Shape := ⟨3, ![1, 1, 128]⟩

abbrev nBuf : Table → Nat
  | .hbm => 4
  | .shared => 1
  | .local .scVector .vmem => 5
  | _ => 0

abbrev bufTy : (tb : Table) → Fin (nBuf tb) → BufTy
  | .hbm, ⟨0, _⟩ => ⟨S8x2048x128, .f32⟩
  | .hbm, ⟨1, _⟩ => ⟨S8x8, .i32⟩
  | .hbm, ⟨2, _⟩ => ⟨S64, .i32⟩
  | .hbm, ⟨3, _⟩ => ⟨S8x8x128, .f32⟩
  | .shared, ⟨0, _⟩ => ⟨S16x8x128, .f32⟩
  | .local .scVector .vmem, ⟨0, _⟩ => ⟨S16, .i32⟩
  | .local .scVector .vmem, ⟨1, _⟩ => ⟨S512x128, .f32⟩
  | .local .scVector .vmem, ⟨2, _⟩ => ⟨S8x128, .f32⟩
  | .local .scVector .vmem, ⟨3, _⟩ => ⟨S4x2x128, .f32⟩
  | .local .scVector .vmem, ⟨4, _⟩ => ⟨S2x128, .f32⟩
  | _, _ => ⟨S8x2048x128, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch5 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c8_i32 : BitVec 32 := 8#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let v51 : BitVec 32 := Scalar.muli c8_i32 v18
  let c48_i32 : BitVec 32 := 48#32
  let v52 : BitVec 32 := Scalar.minsi v51 c48_i32
  v52
def k0_off1 (i : grid0.Coords) : Fin 1 → Nat :=
  let c8_i32 : BitVec 32 := 8#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let v51 : BitVec 32 := Scalar.muli c8_i32 v18
  let c48_i32 : BitVec 32 := 48#32
  let v52 : BitVec 32 := Scalar.minsi v51 c48_i32
  let v53 : BitVec 32 := v52
  ![v53.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let c4_i32_11 : BitVec 32 := 4#32
  let c0_i32_12 : BitVec 32 := 0#32
  let v29 : BitVec 1 := Scalar.cmpi .eq c4_i32_11 c0_i32_12
  let c1_i32_13 : BitVec 32 := 1#32
  let v30 : BitVec 32 := Scalar.select v29 c1_i32_13 c4_i32_11
  let v31 : BitVec 32 := Scalar.remsi arg1 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let c512_i32 : BitVec 32 := 512#32
  let v39 : BitVec 32 := Scalar.muli v38 c512_i32
  let c0_i32_25 : BitVec 32 := 0#32
  ![v18.toNat, v39.toNat, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let c4_i32_11 : BitVec 32 := 4#32
  let c0_i32_12 : BitVec 32 := 0#32
  let v29 : BitVec 1 := Scalar.cmpi .eq c4_i32_11 c0_i32_12
  let c1_i32_13 : BitVec 32 := 1#32
  let v30 : BitVec 32 := Scalar.select v29 c1_i32_13 c4_i32_11
  let v31 : BitVec 32 := Scalar.remsi arg1 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let c512_i32 : BitVec 32 := 512#32
  let v39 : BitVec 32 := Scalar.muli v38 c512_i32
  let c256_i32 : BitVec 32 := 256#32
  let v106 : BitVec 32 := Scalar.addi v39 c256_i32
  let c0_i32_47 : BitVec 32 := 0#32
  ![v18.toNat, v106.toNat, 0]
@[reducible] def k0_t1_loop : Scf.Loop 32 :=
  let c0_i32_51 : BitVec 32 := 0#32
  let c8_i32_52 : BitVec 32 := 8#32
  let v113 : BitVec 32 := Scalar.addi c0_i32_51 c8_i32_52
  let c1_i32_53 : BitVec 32 := 1#32
  ⟨c0_i32_51, v113, c1_i32_53⟩
@[reducible] def k0_t2_loop (v509 : BitVec 32) (v513 : BitVec 32) : Scf.Loop 32 :=
  let c0_i32_326 : BitVec 32 := 0#32
  let c256_i32_321 : BitVec 32 := 256#32
  let v515 : BitVec 32 := Scalar.minsi v513 c256_i32_321
  let c256_i32_320 : BitVec 32 := 256#32
  let v514 : BitVec 32 := Scalar.minsi v509 c256_i32_320
  let v516 : BitVec 32 := Scalar.subi v515 v514
  let c1_i32_322 : BitVec 32 := 1#32
  let c1_i32_323 : BitVec 32 := 1#32
  let v517 : BitVec 32 := Scalar.subi c1_i32_322 c1_i32_323
  let v518 : BitVec 32 := Scalar.addi v516 v517
  let c1_i32_324 : BitVec 32 := 1#32
  let v519 : BitVec 32 := Scalar.divsi v518 c1_i32_324
  let v520 : BitVec 32 := Scalar.subi v519 c0_i32_326
  let c1_i32_327 : BitVec 32 := 1#32
  let v522 : BitVec 32 := Scalar.divsi v520 c1_i32_327
  let v523 : BitVec 32 := Scalar.muli v522 c1_i32_327
  let v524 : BitVec 32 := Scalar.addi c0_i32_326 v523
  let c1_i32_328 : BitVec 32 := 1#32
  ⟨c0_i32_326, v524, c1_i32_328⟩

def k0_off4 (v509 : BitVec 32) (v513 : BitVec 32) (k0_t2 : Fin (k0_t2_loop v509 v513).trips) : Fin 2 → Nat :=
  let c256_i32_320 : BitVec 32 := 256#32
  let v514 : BitVec 32 := Scalar.minsi v509 c256_i32_320
  let c0_i32_326 : BitVec 32 := 0#32
  let c1_i32_328 : BitVec 32 := 1#32
  let arg16 : BitVec 32 := Scf.iv c0_i32_326 c1_i32_328 k0_t2
  let c1_i32_325 : BitVec 32 := 1#32
  let v543 : BitVec 32 := Scalar.muli arg16 c1_i32_325
  let v544 : BitVec 32 := Scalar.addi v514 v543
  let v545 : Index := Scalar.indexCast v544
  let c0_338 : Index := 0#32
  ![v545.toNat, 0]
def k0_off5 (v509 : BitVec 32) (v513 : BitVec 32) (k0_t2 : Fin (k0_t2_loop v509 v513).trips) : Fin 2 → Nat :=
  let c256_i32_320 : BitVec 32 := 256#32
  let v514 : BitVec 32 := Scalar.minsi v509 c256_i32_320
  let c0_i32_326 : BitVec 32 := 0#32
  let c1_i32_328 : BitVec 32 := 1#32
  let arg16 : BitVec 32 := Scf.iv c0_i32_326 c1_i32_328 k0_t2
  let c1_i32_325 : BitVec 32 := 1#32
  let v543 : BitVec 32 := Scalar.muli arg16 c1_i32_325
  let v544 : BitVec 32 := Scalar.addi v514 v543
  let v548 : Index := Scalar.indexCast v544
  let c16_339 : Index := 16#32
  ![v548.toNat, 16]
def k0_off6 (v509 : BitVec 32) (v513 : BitVec 32) (k0_t2 : Fin (k0_t2_loop v509 v513).trips) : Fin 2 → Nat :=
  let c256_i32_320 : BitVec 32 := 256#32
  let v514 : BitVec 32 := Scalar.minsi v509 c256_i32_320
  let c0_i32_326 : BitVec 32 := 0#32
  let c1_i32_328 : BitVec 32 := 1#32
  let arg16 : BitVec 32 := Scf.iv c0_i32_326 c1_i32_328 k0_t2
  let c1_i32_325 : BitVec 32 := 1#32
  let v543 : BitVec 32 := Scalar.muli arg16 c1_i32_325
  let v544 : BitVec 32 := Scalar.addi v514 v543
  let v551 : Index := Scalar.indexCast v544
  let c32_340 : Index := 32#32
  ![v551.toNat, 32]
def k0_off7 (v509 : BitVec 32) (v513 : BitVec 32) (k0_t2 : Fin (k0_t2_loop v509 v513).trips) : Fin 2 → Nat :=
  let c256_i32_320 : BitVec 32 := 256#32
  let v514 : BitVec 32 := Scalar.minsi v509 c256_i32_320
  let c0_i32_326 : BitVec 32 := 0#32
  let c1_i32_328 : BitVec 32 := 1#32
  let arg16 : BitVec 32 := Scf.iv c0_i32_326 c1_i32_328 k0_t2
  let c1_i32_325 : BitVec 32 := 1#32
  let v543 : BitVec 32 := Scalar.muli arg16 c1_i32_325
  let v544 : BitVec 32 := Scalar.addi v514 v543
  let v554 : Index := Scalar.indexCast v544
  let c48_341 : Index := 48#32
  ![v554.toNat, 48]
def k0_off8 (v509 : BitVec 32) (v513 : BitVec 32) (k0_t2 : Fin (k0_t2_loop v509 v513).trips) : Fin 2 → Nat :=
  let c256_i32_320 : BitVec 32 := 256#32
  let v514 : BitVec 32 := Scalar.minsi v509 c256_i32_320
  let c0_i32_326 : BitVec 32 := 0#32
  let c1_i32_328 : BitVec 32 := 1#32
  let arg16 : BitVec 32 := Scf.iv c0_i32_326 c1_i32_328 k0_t2
  let c1_i32_325 : BitVec 32 := 1#32
  let v543 : BitVec 32 := Scalar.muli arg16 c1_i32_325
  let v544 : BitVec 32 := Scalar.addi v514 v543
  let v557 : Index := Scalar.indexCast v544
  let c64_342 : Index := 64#32
  ![v557.toNat, 64]
def k0_off9 (v509 : BitVec 32) (v513 : BitVec 32) (k0_t2 : Fin (k0_t2_loop v509 v513).trips) : Fin 2 → Nat :=
  let c256_i32_320 : BitVec 32 := 256#32
  let v514 : BitVec 32 := Scalar.minsi v509 c256_i32_320
  let c0_i32_326 : BitVec 32 := 0#32
  let c1_i32_328 : BitVec 32 := 1#32
  let arg16 : BitVec 32 := Scf.iv c0_i32_326 c1_i32_328 k0_t2
  let c1_i32_325 : BitVec 32 := 1#32
  let v543 : BitVec 32 := Scalar.muli arg16 c1_i32_325
  let v544 : BitVec 32 := Scalar.addi v514 v543
  let v560 : Index := Scalar.indexCast v544
  let c80_343 : Index := 80#32
  ![v560.toNat, 80]
def k0_off10 (v509 : BitVec 32) (v513 : BitVec 32) (k0_t2 : Fin (k0_t2_loop v509 v513).trips) : Fin 2 → Nat :=
  let c256_i32_320 : BitVec 32 := 256#32
  let v514 : BitVec 32 := Scalar.minsi v509 c256_i32_320
  let c0_i32_326 : BitVec 32 := 0#32
  let c1_i32_328 : BitVec 32 := 1#32
  let arg16 : BitVec 32 := Scf.iv c0_i32_326 c1_i32_328 k0_t2
  let c1_i32_325 : BitVec 32 := 1#32
  let v543 : BitVec 32 := Scalar.muli arg16 c1_i32_325
  let v544 : BitVec 32 := Scalar.addi v514 v543
  let v563 : Index := Scalar.indexCast v544
  let c96_344 : Index := 96#32
  ![v563.toNat, 96]
def k0_off11 (v509 : BitVec 32) (v513 : BitVec 32) (k0_t2 : Fin (k0_t2_loop v509 v513).trips) : Fin 2 → Nat :=
  let c256_i32_320 : BitVec 32 := 256#32
  let v514 : BitVec 32 := Scalar.minsi v509 c256_i32_320
  let c0_i32_326 : BitVec 32 := 0#32
  let c1_i32_328 : BitVec 32 := 1#32
  let arg16 : BitVec 32 := Scf.iv c0_i32_326 c1_i32_328 k0_t2
  let c1_i32_325 : BitVec 32 := 1#32
  let v543 : BitVec 32 := Scalar.muli arg16 c1_i32_325
  let v544 : BitVec 32 := Scalar.addi v514 v543
  let v566 : Index := Scalar.indexCast v544
  let c112_345 : Index := 112#32
  ![v566.toNat, 112]
@[reducible] def k0_t3_loop (v509 : BitVec 32) (v513 : BitVec 32) : Scf.Loop 32 :=
  let c0_i32_326 : BitVec 32 := 0#32
  let c256_i32_321 : BitVec 32 := 256#32
  let v515 : BitVec 32 := Scalar.minsi v513 c256_i32_321
  let c256_i32_320 : BitVec 32 := 256#32
  let v514 : BitVec 32 := Scalar.minsi v509 c256_i32_320
  let v516 : BitVec 32 := Scalar.subi v515 v514
  let c1_i32_322 : BitVec 32 := 1#32
  let c1_i32_323 : BitVec 32 := 1#32
  let v517 : BitVec 32 := Scalar.subi c1_i32_322 c1_i32_323
  let v518 : BitVec 32 := Scalar.addi v516 v517
  let c1_i32_324 : BitVec 32 := 1#32
  let v519 : BitVec 32 := Scalar.divsi v518 c1_i32_324
  let v520 : BitVec 32 := Scalar.subi v519 c0_i32_326
  let c1_i32_327 : BitVec 32 := 1#32
  let v522 : BitVec 32 := Scalar.divsi v520 c1_i32_327
  let v523 : BitVec 32 := Scalar.muli v522 c1_i32_327
  let v524 : BitVec 32 := Scalar.addi c0_i32_326 v523
  let v521 : BitVec 32 := Scalar.addi c0_i32_326 v520
  let c1_i32_329 : BitVec 32 := 1#32
  ⟨v524, v521, c1_i32_329⟩
def k0_off12 (v509 : BitVec 32) (v513 : BitVec 32) (k0_t3 : Fin (k0_t3_loop v509 v513).trips) : Fin 2 → Nat :=
  let c256_i32_320 : BitVec 32 := 256#32
  let v514 : BitVec 32 := Scalar.minsi v509 c256_i32_320
  let c0_i32_326 : BitVec 32 := 0#32
  let c256_i32_321 : BitVec 32 := 256#32
  let v515 : BitVec 32 := Scalar.minsi v513 c256_i32_321
  let v516 : BitVec 32 := Scalar.subi v515 v514
  let c1_i32_322 : BitVec 32 := 1#32
  let c1_i32_323 : BitVec 32 := 1#32
  let v517 : BitVec 32 := Scalar.subi c1_i32_322 c1_i32_323
  let v518 : BitVec 32 := Scalar.addi v516 v517
  let c1_i32_324 : BitVec 32 := 1#32
  let v519 : BitVec 32 := Scalar.divsi v518 c1_i32_324
  let v520 : BitVec 32 := Scalar.subi v519 c0_i32_326
  let c1_i32_327 : BitVec 32 := 1#32
  let v522 : BitVec 32 := Scalar.divsi v520 c1_i32_327
  let v523 : BitVec 32 := Scalar.muli v522 c1_i32_327
  let v524 : BitVec 32 := Scalar.addi c0_i32_326 v523
  let c1_i32_329 : BitVec 32 := 1#32
  let arg16 : BitVec 32 := Scf.iv v524 c1_i32_329 k0_t3
  let c1_i32_325 : BitVec 32 := 1#32
  let v543 : BitVec 32 := Scalar.muli arg16 c1_i32_325
  let v544 : BitVec 32 := Scalar.addi v514 v543
  let v545 : Index := Scalar.indexCast v544
  let c0_338 : Index := 0#32
  ![v545.toNat, 0]
def k0_off13 (v509 : BitVec 32) (v513 : BitVec 32) (k0_t3 : Fin (k0_t3_loop v509 v513).trips) : Fin 2 → Nat :=
  let c256_i32_320 : BitVec 32 := 256#32
  let v514 : BitVec 32 := Scalar.minsi v509 c256_i32_320
  let c0_i32_326 : BitVec 32 := 0#32
  let c256_i32_321 : BitVec 32 := 256#32
  let v515 : BitVec 32 := Scalar.minsi v513 c256_i32_321
  let v516 : BitVec 32 := Scalar.subi v515 v514
  let c1_i32_322 : BitVec 32 := 1#32
  let c1_i32_323 : BitVec 32 := 1#32
  let v517 : BitVec 32 := Scalar.subi c1_i32_322 c1_i32_323
  let v518 : BitVec 32 := Scalar.addi v516 v517
  let c1_i32_324 : BitVec 32 := 1#32
  let v519 : BitVec 32 := Scalar.divsi v518 c1_i32_324
  let v520 : BitVec 32 := Scalar.subi v519 c0_i32_326
  let c1_i32_327 : BitVec 32 := 1#32
  let v522 : BitVec 32 := Scalar.divsi v520 c1_i32_327
  let v523 : BitVec 32 := Scalar.muli v522 c1_i32_327
  let v524 : BitVec 32 := Scalar.addi c0_i32_326 v523
  let c1_i32_329 : BitVec 32 := 1#32
  let arg16 : BitVec 32 := Scf.iv v524 c1_i32_329 k0_t3
  let c1_i32_325 : BitVec 32 := 1#32
  let v543 : BitVec 32 := Scalar.muli arg16 c1_i32_325
  let v544 : BitVec 32 := Scalar.addi v514 v543
  let v548 : Index := Scalar.indexCast v544
  let c16_339 : Index := 16#32
  ![v548.toNat, 16]
def k0_off14 (v509 : BitVec 32) (v513 : BitVec 32) (k0_t3 : Fin (k0_t3_loop v509 v513).trips) : Fin 2 → Nat :=
  let c256_i32_320 : BitVec 32 := 256#32
  let v514 : BitVec 32 := Scalar.minsi v509 c256_i32_320
  let c0_i32_326 : BitVec 32 := 0#32
  let c256_i32_321 : BitVec 32 := 256#32
  let v515 : BitVec 32 := Scalar.minsi v513 c256_i32_321
  let v516 : BitVec 32 := Scalar.subi v515 v514
  let c1_i32_322 : BitVec 32 := 1#32
  let c1_i32_323 : BitVec 32 := 1#32
  let v517 : BitVec 32 := Scalar.subi c1_i32_322 c1_i32_323
  let v518 : BitVec 32 := Scalar.addi v516 v517
  let c1_i32_324 : BitVec 32 := 1#32
  let v519 : BitVec 32 := Scalar.divsi v518 c1_i32_324
  let v520 : BitVec 32 := Scalar.subi v519 c0_i32_326
  let c1_i32_327 : BitVec 32 := 1#32
  let v522 : BitVec 32 := Scalar.divsi v520 c1_i32_327
  let v523 : BitVec 32 := Scalar.muli v522 c1_i32_327
  let v524 : BitVec 32 := Scalar.addi c0_i32_326 v523
  let c1_i32_329 : BitVec 32 := 1#32
  let arg16 : BitVec 32 := Scf.iv v524 c1_i32_329 k0_t3
  let c1_i32_325 : BitVec 32 := 1#32
  let v543 : BitVec 32 := Scalar.muli arg16 c1_i32_325
  let v544 : BitVec 32 := Scalar.addi v514 v543
  let v551 : Index := Scalar.indexCast v544
  let c32_340 : Index := 32#32
  ![v551.toNat, 32]
def k0_off15 (v509 : BitVec 32) (v513 : BitVec 32) (k0_t3 : Fin (k0_t3_loop v509 v513).trips) : Fin 2 → Nat :=
  let c256_i32_320 : BitVec 32 := 256#32
  let v514 : BitVec 32 := Scalar.minsi v509 c256_i32_320
  let c0_i32_326 : BitVec 32 := 0#32
  let c256_i32_321 : BitVec 32 := 256#32
  let v515 : BitVec 32 := Scalar.minsi v513 c256_i32_321
  let v516 : BitVec 32 := Scalar.subi v515 v514
  let c1_i32_322 : BitVec 32 := 1#32
  let c1_i32_323 : BitVec 32 := 1#32
  let v517 : BitVec 32 := Scalar.subi c1_i32_322 c1_i32_323
  let v518 : BitVec 32 := Scalar.addi v516 v517
  let c1_i32_324 : BitVec 32 := 1#32
  let v519 : BitVec 32 := Scalar.divsi v518 c1_i32_324
  let v520 : BitVec 32 := Scalar.subi v519 c0_i32_326
  let c1_i32_327 : BitVec 32 := 1#32
  let v522 : BitVec 32 := Scalar.divsi v520 c1_i32_327
  let v523 : BitVec 32 := Scalar.muli v522 c1_i32_327
  let v524 : BitVec 32 := Scalar.addi c0_i32_326 v523
  let c1_i32_329 : BitVec 32 := 1#32
  let arg16 : BitVec 32 := Scf.iv v524 c1_i32_329 k0_t3
  let c1_i32_325 : BitVec 32 := 1#32
  let v543 : BitVec 32 := Scalar.muli arg16 c1_i32_325
  let v544 : BitVec 32 := Scalar.addi v514 v543
  let v554 : Index := Scalar.indexCast v544
  let c48_341 : Index := 48#32
  ![v554.toNat, 48]
def k0_off16 (v509 : BitVec 32) (v513 : BitVec 32) (k0_t3 : Fin (k0_t3_loop v509 v513).trips) : Fin 2 → Nat :=
  let c256_i32_320 : BitVec 32 := 256#32
  let v514 : BitVec 32 := Scalar.minsi v509 c256_i32_320
  let c0_i32_326 : BitVec 32 := 0#32
  let c256_i32_321 : BitVec 32 := 256#32
  let v515 : BitVec 32 := Scalar.minsi v513 c256_i32_321
  let v516 : BitVec 32 := Scalar.subi v515 v514
  let c1_i32_322 : BitVec 32 := 1#32
  let c1_i32_323 : BitVec 32 := 1#32
  let v517 : BitVec 32 := Scalar.subi c1_i32_322 c1_i32_323
  let v518 : BitVec 32 := Scalar.addi v516 v517
  let c1_i32_324 : BitVec 32 := 1#32
  let v519 : BitVec 32 := Scalar.divsi v518 c1_i32_324
  let v520 : BitVec 32 := Scalar.subi v519 c0_i32_326
  let c1_i32_327 : BitVec 32 := 1#32
  let v522 : BitVec 32 := Scalar.divsi v520 c1_i32_327
  let v523 : BitVec 32 := Scalar.muli v522 c1_i32_327
  let v524 : BitVec 32 := Scalar.addi c0_i32_326 v523
  let c1_i32_329 : BitVec 32 := 1#32
  let arg16 : BitVec 32 := Scf.iv v524 c1_i32_329 k0_t3
  let c1_i32_325 : BitVec 32 := 1#32
  let v543 : BitVec 32 := Scalar.muli arg16 c1_i32_325
  let v544 : BitVec 32 := Scalar.addi v514 v543
  let v557 : Index := Scalar.indexCast v544
  let c64_342 : Index := 64#32
  ![v557.toNat, 64]
def k0_off17 (v509 : BitVec 32) (v513 : BitVec 32) (k0_t3 : Fin (k0_t3_loop v509 v513).trips) : Fin 2 → Nat :=
  let c256_i32_320 : BitVec 32 := 256#32
  let v514 : BitVec 32 := Scalar.minsi v509 c256_i32_320
  let c0_i32_326 : BitVec 32 := 0#32
  let c256_i32_321 : BitVec 32 := 256#32
  let v515 : BitVec 32 := Scalar.minsi v513 c256_i32_321
  let v516 : BitVec 32 := Scalar.subi v515 v514
  let c1_i32_322 : BitVec 32 := 1#32
  let c1_i32_323 : BitVec 32 := 1#32
  let v517 : BitVec 32 := Scalar.subi c1_i32_322 c1_i32_323
  let v518 : BitVec 32 := Scalar.addi v516 v517
  let c1_i32_324 : BitVec 32 := 1#32
  let v519 : BitVec 32 := Scalar.divsi v518 c1_i32_324
  let v520 : BitVec 32 := Scalar.subi v519 c0_i32_326
  let c1_i32_327 : BitVec 32 := 1#32
  let v522 : BitVec 32 := Scalar.divsi v520 c1_i32_327
  let v523 : BitVec 32 := Scalar.muli v522 c1_i32_327
  let v524 : BitVec 32 := Scalar.addi c0_i32_326 v523
  let c1_i32_329 : BitVec 32 := 1#32
  let arg16 : BitVec 32 := Scf.iv v524 c1_i32_329 k0_t3
  let c1_i32_325 : BitVec 32 := 1#32
  let v543 : BitVec 32 := Scalar.muli arg16 c1_i32_325
  let v544 : BitVec 32 := Scalar.addi v514 v543
  let v560 : Index := Scalar.indexCast v544
  let c80_343 : Index := 80#32
  ![v560.toNat, 80]
def k0_off18 (v509 : BitVec 32) (v513 : BitVec 32) (k0_t3 : Fin (k0_t3_loop v509 v513).trips) : Fin 2 → Nat :=
  let c256_i32_320 : BitVec 32 := 256#32
  let v514 : BitVec 32 := Scalar.minsi v509 c256_i32_320
  let c0_i32_326 : BitVec 32 := 0#32
  let c256_i32_321 : BitVec 32 := 256#32
  let v515 : BitVec 32 := Scalar.minsi v513 c256_i32_321
  let v516 : BitVec 32 := Scalar.subi v515 v514
  let c1_i32_322 : BitVec 32 := 1#32
  let c1_i32_323 : BitVec 32 := 1#32
  let v517 : BitVec 32 := Scalar.subi c1_i32_322 c1_i32_323
  let v518 : BitVec 32 := Scalar.addi v516 v517
  let c1_i32_324 : BitVec 32 := 1#32
  let v519 : BitVec 32 := Scalar.divsi v518 c1_i32_324
  let v520 : BitVec 32 := Scalar.subi v519 c0_i32_326
  let c1_i32_327 : BitVec 32 := 1#32
  let v522 : BitVec 32 := Scalar.divsi v520 c1_i32_327
  let v523 : BitVec 32 := Scalar.muli v522 c1_i32_327
  let v524 : BitVec 32 := Scalar.addi c0_i32_326 v523
  let c1_i32_329 : BitVec 32 := 1#32
  let arg16 : BitVec 32 := Scf.iv v524 c1_i32_329 k0_t3
  let c1_i32_325 : BitVec 32 := 1#32
  let v543 : BitVec 32 := Scalar.muli arg16 c1_i32_325
  let v544 : BitVec 32 := Scalar.addi v514 v543
  let v563 : Index := Scalar.indexCast v544
  let c96_344 : Index := 96#32
  ![v563.toNat, 96]
def k0_off19 (v509 : BitVec 32) (v513 : BitVec 32) (k0_t3 : Fin (k0_t3_loop v509 v513).trips) : Fin 2 → Nat :=
  let c256_i32_320 : BitVec 32 := 256#32
  let v514 : BitVec 32 := Scalar.minsi v509 c256_i32_320
  let c0_i32_326 : BitVec 32 := 0#32
  let c256_i32_321 : BitVec 32 := 256#32
  let v515 : BitVec 32 := Scalar.minsi v513 c256_i32_321
  let v516 : BitVec 32 := Scalar.subi v515 v514
  let c1_i32_322 : BitVec 32 := 1#32
  let c1_i32_323 : BitVec 32 := 1#32
  let v517 : BitVec 32 := Scalar.subi c1_i32_322 c1_i32_323
  let v518 : BitVec 32 := Scalar.addi v516 v517
  let c1_i32_324 : BitVec 32 := 1#32
  let v519 : BitVec 32 := Scalar.divsi v518 c1_i32_324
  let v520 : BitVec 32 := Scalar.subi v519 c0_i32_326
  let c1_i32_327 : BitVec 32 := 1#32
  let v522 : BitVec 32 := Scalar.divsi v520 c1_i32_327
  let v523 : BitVec 32 := Scalar.muli v522 c1_i32_327
  let v524 : BitVec 32 := Scalar.addi c0_i32_326 v523
  let c1_i32_329 : BitVec 32 := 1#32
  let arg16 : BitVec 32 := Scf.iv v524 c1_i32_329 k0_t3
  let c1_i32_325 : BitVec 32 := 1#32
  let v543 : BitVec 32 := Scalar.muli arg16 c1_i32_325
  let v544 : BitVec 32 := Scalar.addi v514 v543
  let v566 : Index := Scalar.indexCast v544
  let c112_345 : Index := 112#32
  ![v566.toNat, 112]

def k0_chk1 (v509 : BitVec 32) (v513 : BitVec 32) : Prop :=
  ((k0_t2_loop v509 v513).OK) ∧
  (∀ k0_t2 : Fin (k0_t2_loop v509 v513).trips, ∀ a, (k0_off4 v509 v513 k0_t2) a + S1x16.size a ≤ S512x128.size a) ∧
  (∀ k0_t2 : Fin (k0_t2_loop v509 v513).trips, ∀ a, (k0_off5 v509 v513 k0_t2) a + S1x16.size a ≤ S512x128.size a) ∧
  (∀ k0_t2 : Fin (k0_t2_loop v509 v513).trips, ∀ a, (k0_off6 v509 v513 k0_t2) a + S1x16.size a ≤ S512x128.size a) ∧
  (∀ k0_t2 : Fin (k0_t2_loop v509 v513).trips, ∀ a, (k0_off7 v509 v513 k0_t2) a + S1x16.size a ≤ S512x128.size a) ∧
  (∀ k0_t2 : Fin (k0_t2_loop v509 v513).trips, ∀ a, (k0_off8 v509 v513 k0_t2) a + S1x16.size a ≤ S512x128.size a) ∧
  (∀ k0_t2 : Fin (k0_t2_loop v509 v513).trips, ∀ a, (k0_off9 v509 v513 k0_t2) a + S1x16.size a ≤ S512x128.size a) ∧
  (∀ k0_t2 : Fin (k0_t2_loop v509 v513).trips, ∀ a, (k0_off10 v509 v513 k0_t2) a + S1x16.size a ≤ S512x128.size a) ∧
  (∀ k0_t2 : Fin (k0_t2_loop v509 v513).trips, ∀ a, (k0_off11 v509 v513 k0_t2) a + S1x16.size a ≤ S512x128.size a) ∧
  ((k0_t3_loop v509 v513).OK) ∧
  (∀ k0_t3 : Fin (k0_t3_loop v509 v513).trips, ∀ a, (k0_off12 v509 v513 k0_t3) a + S1x16.size a ≤ S512x128.size a) ∧
  (∀ k0_t3 : Fin (k0_t3_loop v509 v513).trips, ∀ a, (k0_off13 v509 v513 k0_t3) a + S1x16.size a ≤ S512x128.size a) ∧
  (∀ k0_t3 : Fin (k0_t3_loop v509 v513).trips, ∀ a, (k0_off14 v509 v513 k0_t3) a + S1x16.size a ≤ S512x128.size a) ∧
  (∀ k0_t3 : Fin (k0_t3_loop v509 v513).trips, ∀ a, (k0_off15 v509 v513 k0_t3) a + S1x16.size a ≤ S512x128.size a) ∧
  (∀ k0_t3 : Fin (k0_t3_loop v509 v513).trips, ∀ a, (k0_off16 v509 v513 k0_t3) a + S1x16.size a ≤ S512x128.size a) ∧
  (∀ k0_t3 : Fin (k0_t3_loop v509 v513).trips, ∀ a, (k0_off17 v509 v513 k0_t3) a + S1x16.size a ≤ S512x128.size a) ∧
  (∀ k0_t3 : Fin (k0_t3_loop v509 v513).trips, ∀ a, (k0_off18 v509 v513 k0_t3) a + S1x16.size a ≤ S512x128.size a) ∧
  (∀ k0_t3 : Fin (k0_t3_loop v509 v513).trips, ∀ a, (k0_off19 v509 v513 k0_t3) a + S1x16.size a ≤ S512x128.size a)
theorem k0_t2_ok : ∀ (v509 : BitVec 32) (v513 : BitVec 32) (k0_hw1 : k0_chk1 v509 v513), (k0_t2_loop v509 v513).OK := fun v509 v513 k0_hw1 => k0_hw1.1
theorem k0_off4_inb : ∀ (v509 : BitVec 32) (v513 : BitVec 32) (k0_hw1 : k0_chk1 v509 v513) (k0_t2 : Fin (k0_t2_loop v509 v513).trips), ∀ a, (k0_off4 v509 v513 k0_t2) a + S1x16.size a ≤ S512x128.size a := fun v509 v513 k0_hw1 k0_t2 => k0_hw1.2.1 k0_t2
theorem k0_off5_inb : ∀ (v509 : BitVec 32) (v513 : BitVec 32) (k0_hw1 : k0_chk1 v509 v513) (k0_t2 : Fin (k0_t2_loop v509 v513).trips), ∀ a, (k0_off5 v509 v513 k0_t2) a + S1x16.size a ≤ S512x128.size a := fun v509 v513 k0_hw1 k0_t2 => k0_hw1.2.2.1 k0_t2
theorem k0_off6_inb : ∀ (v509 : BitVec 32) (v513 : BitVec 32) (k0_hw1 : k0_chk1 v509 v513) (k0_t2 : Fin (k0_t2_loop v509 v513).trips), ∀ a, (k0_off6 v509 v513 k0_t2) a + S1x16.size a ≤ S512x128.size a := fun v509 v513 k0_hw1 k0_t2 => k0_hw1.2.2.2.1 k0_t2
theorem k0_off7_inb : ∀ (v509 : BitVec 32) (v513 : BitVec 32) (k0_hw1 : k0_chk1 v509 v513) (k0_t2 : Fin (k0_t2_loop v509 v513).trips), ∀ a, (k0_off7 v509 v513 k0_t2) a + S1x16.size a ≤ S512x128.size a := fun v509 v513 k0_hw1 k0_t2 => k0_hw1.2.2.2.2.1 k0_t2
theorem k0_off8_inb : ∀ (v509 : BitVec 32) (v513 : BitVec 32) (k0_hw1 : k0_chk1 v509 v513) (k0_t2 : Fin (k0_t2_loop v509 v513).trips), ∀ a, (k0_off8 v509 v513 k0_t2) a + S1x16.size a ≤ S512x128.size a := fun v509 v513 k0_hw1 k0_t2 => k0_hw1.2.2.2.2.2.1 k0_t2
theorem k0_off9_inb : ∀ (v509 : BitVec 32) (v513 : BitVec 32) (k0_hw1 : k0_chk1 v509 v513) (k0_t2 : Fin (k0_t2_loop v509 v513).trips), ∀ a, (k0_off9 v509 v513 k0_t2) a + S1x16.size a ≤ S512x128.size a := fun v509 v513 k0_hw1 k0_t2 => k0_hw1.2.2.2.2.2.2.1 k0_t2
theorem k0_off10_inb : ∀ (v509 : BitVec 32) (v513 : BitVec 32) (k0_hw1 : k0_chk1 v509 v513) (k0_t2 : Fin (k0_t2_loop v509 v513).trips), ∀ a, (k0_off10 v509 v513 k0_t2) a + S1x16.size a ≤ S512x128.size a := fun v509 v513 k0_hw1 k0_t2 => k0_hw1.2.2.2.2.2.2.2.1 k0_t2
theorem k0_off11_inb : ∀ (v509 : BitVec 32) (v513 : BitVec 32) (k0_hw1 : k0_chk1 v509 v513) (k0_t2 : Fin (k0_t2_loop v509 v513).trips), ∀ a, (k0_off11 v509 v513 k0_t2) a + S1x16.size a ≤ S512x128.size a := fun v509 v513 k0_hw1 k0_t2 => k0_hw1.2.2.2.2.2.2.2.2.1 k0_t2
theorem k0_t3_ok : ∀ (v509 : BitVec 32) (v513 : BitVec 32) (k0_hw1 : k0_chk1 v509 v513), (k0_t3_loop v509 v513).OK := fun v509 v513 k0_hw1 => k0_hw1.2.2.2.2.2.2.2.2.2.1
theorem k0_off12_inb : ∀ (v509 : BitVec 32) (v513 : BitVec 32) (k0_hw1 : k0_chk1 v509 v513) (k0_t3 : Fin (k0_t3_loop v509 v513).trips), ∀ a, (k0_off12 v509 v513 k0_t3) a + S1x16.size a ≤ S512x128.size a := fun v509 v513 k0_hw1 k0_t3 => k0_hw1.2.2.2.2.2.2.2.2.2.2.1 k0_t3
theorem k0_off13_inb : ∀ (v509 : BitVec 32) (v513 : BitVec 32) (k0_hw1 : k0_chk1 v509 v513) (k0_t3 : Fin (k0_t3_loop v509 v513).trips), ∀ a, (k0_off13 v509 v513 k0_t3) a + S1x16.size a ≤ S512x128.size a := fun v509 v513 k0_hw1 k0_t3 => k0_hw1.2.2.2.2.2.2.2.2.2.2.2.1 k0_t3
theorem k0_off14_inb : ∀ (v509 : BitVec 32) (v513 : BitVec 32) (k0_hw1 : k0_chk1 v509 v513) (k0_t3 : Fin (k0_t3_loop v509 v513).trips), ∀ a, (k0_off14 v509 v513 k0_t3) a + S1x16.size a ≤ S512x128.size a := fun v509 v513 k0_hw1 k0_t3 => k0_hw1.2.2.2.2.2.2.2.2.2.2.2.2.1 k0_t3
theorem k0_off15_inb : ∀ (v509 : BitVec 32) (v513 : BitVec 32) (k0_hw1 : k0_chk1 v509 v513) (k0_t3 : Fin (k0_t3_loop v509 v513).trips), ∀ a, (k0_off15 v509 v513 k0_t3) a + S1x16.size a ≤ S512x128.size a := fun v509 v513 k0_hw1 k0_t3 => k0_hw1.2.2.2.2.2.2.2.2.2.2.2.2.2.1 k0_t3
theorem k0_off16_inb : ∀ (v509 : BitVec 32) (v513 : BitVec 32) (k0_hw1 : k0_chk1 v509 v513) (k0_t3 : Fin (k0_t3_loop v509 v513).trips), ∀ a, (k0_off16 v509 v513 k0_t3) a + S1x16.size a ≤ S512x128.size a := fun v509 v513 k0_hw1 k0_t3 => k0_hw1.2.2.2.2.2.2.2.2.2.2.2.2.2.2.1 k0_t3
theorem k0_off17_inb : ∀ (v509 : BitVec 32) (v513 : BitVec 32) (k0_hw1 : k0_chk1 v509 v513) (k0_t3 : Fin (k0_t3_loop v509 v513).trips), ∀ a, (k0_off17 v509 v513 k0_t3) a + S1x16.size a ≤ S512x128.size a := fun v509 v513 k0_hw1 k0_t3 => k0_hw1.2.2.2.2.2.2.2.2.2.2.2.2.2.2.2.1 k0_t3
theorem k0_off18_inb : ∀ (v509 : BitVec 32) (v513 : BitVec 32) (k0_hw1 : k0_chk1 v509 v513) (k0_t3 : Fin (k0_t3_loop v509 v513).trips), ∀ a, (k0_off18 v509 v513 k0_t3) a + S1x16.size a ≤ S512x128.size a := fun v509 v513 k0_hw1 k0_t3 => k0_hw1.2.2.2.2.2.2.2.2.2.2.2.2.2.2.2.2.1 k0_t3
theorem k0_off19_inb : ∀ (v509 : BitVec 32) (v513 : BitVec 32) (k0_hw1 : k0_chk1 v509 v513) (k0_t3 : Fin (k0_t3_loop v509 v513).trips), ∀ a, (k0_off19 v509 v513 k0_t3) a + S1x16.size a ≤ S512x128.size a := fun v509 v513 k0_hw1 k0_t3 => k0_hw1.2.2.2.2.2.2.2.2.2.2.2.2.2.2.2.2.2 k0_t3

def k0_off20 (k0_t1 : Fin k0_t1_loop.trips) : Fin 2 → Nat :=
  let c0_i32_317 : BitVec 32 := 0#32
  let c0_i32_51 : BitVec 32 := 0#32
  let c1_i32_53 : BitVec 32 := 1#32
  let arg15 : BitVec 32 := Scf.iv c0_i32_51 c1_i32_53 k0_t1
  let c1_i32_316 : BitVec 32 := 1#32
  let v501 : BitVec 32 := Scalar.muli arg15 c1_i32_316
  let v502 : BitVec 32 := Scalar.addi c0_i32_317 v501
  let v527 : Index := Scalar.indexCast v502
  let c0_330 : Index := 0#32
  ![v527.toNat, 0]
def k0_off21 (k0_t1 : Fin k0_t1_loop.trips) : Fin 2 → Nat :=
  let c0_i32_317 : BitVec 32 := 0#32
  let c0_i32_51 : BitVec 32 := 0#32
  let c1_i32_53 : BitVec 32 := 1#32
  let arg15 : BitVec 32 := Scf.iv c0_i32_51 c1_i32_53 k0_t1
  let c1_i32_316 : BitVec 32 := 1#32
  let v501 : BitVec 32 := Scalar.muli arg15 c1_i32_316
  let v502 : BitVec 32 := Scalar.addi c0_i32_317 v501
  let v529 : Index := Scalar.indexCast v502
  let c16_331 : Index := 16#32
  ![v529.toNat, 16]
def k0_off22 (k0_t1 : Fin k0_t1_loop.trips) : Fin 2 → Nat :=
  let c0_i32_317 : BitVec 32 := 0#32
  let c0_i32_51 : BitVec 32 := 0#32
  let c1_i32_53 : BitVec 32 := 1#32
  let arg15 : BitVec 32 := Scf.iv c0_i32_51 c1_i32_53 k0_t1
  let c1_i32_316 : BitVec 32 := 1#32
  let v501 : BitVec 32 := Scalar.muli arg15 c1_i32_316
  let v502 : BitVec 32 := Scalar.addi c0_i32_317 v501
  let v531 : Index := Scalar.indexCast v502
  let c32_332 : Index := 32#32
  ![v531.toNat, 32]
def k0_off23 (k0_t1 : Fin k0_t1_loop.trips) : Fin 2 → Nat :=
  let c0_i32_317 : BitVec 32 := 0#32
  let c0_i32_51 : BitVec 32 := 0#32
  let c1_i32_53 : BitVec 32 := 1#32
  let arg15 : BitVec 32 := Scf.iv c0_i32_51 c1_i32_53 k0_t1
  let c1_i32_316 : BitVec 32 := 1#32
  let v501 : BitVec 32 := Scalar.muli arg15 c1_i32_316
  let v502 : BitVec 32 := Scalar.addi c0_i32_317 v501
  let v533 : Index := Scalar.indexCast v502
  let c48_333 : Index := 48#32
  ![v533.toNat, 48]
def k0_off24 (k0_t1 : Fin k0_t1_loop.trips) : Fin 2 → Nat :=
  let c0_i32_317 : BitVec 32 := 0#32
  let c0_i32_51 : BitVec 32 := 0#32
  let c1_i32_53 : BitVec 32 := 1#32
  let arg15 : BitVec 32 := Scf.iv c0_i32_51 c1_i32_53 k0_t1
  let c1_i32_316 : BitVec 32 := 1#32
  let v501 : BitVec 32 := Scalar.muli arg15 c1_i32_316
  let v502 : BitVec 32 := Scalar.addi c0_i32_317 v501
  let v535 : Index := Scalar.indexCast v502
  let c64_334 : Index := 64#32
  ![v535.toNat, 64]
def k0_off25 (k0_t1 : Fin k0_t1_loop.trips) : Fin 2 → Nat :=
  let c0_i32_317 : BitVec 32 := 0#32
  let c0_i32_51 : BitVec 32 := 0#32
  let c1_i32_53 : BitVec 32 := 1#32
  let arg15 : BitVec 32 := Scf.iv c0_i32_51 c1_i32_53 k0_t1
  let c1_i32_316 : BitVec 32 := 1#32
  let v501 : BitVec 32 := Scalar.muli arg15 c1_i32_316
  let v502 : BitVec 32 := Scalar.addi c0_i32_317 v501
  let v537 : Index := Scalar.indexCast v502
  let c80_335 : Index := 80#32
  ![v537.toNat, 80]
def k0_off26 (k0_t1 : Fin k0_t1_loop.trips) : Fin 2 → Nat :=
  let c0_i32_317 : BitVec 32 := 0#32
  let c0_i32_51 : BitVec 32 := 0#32
  let c1_i32_53 : BitVec 32 := 1#32
  let arg15 : BitVec 32 := Scf.iv c0_i32_51 c1_i32_53 k0_t1
  let c1_i32_316 : BitVec 32 := 1#32
  let v501 : BitVec 32 := Scalar.muli arg15 c1_i32_316
  let v502 : BitVec 32 := Scalar.addi c0_i32_317 v501
  let v539 : Index := Scalar.indexCast v502
  let c96_336 : Index := 96#32
  ![v539.toNat, 96]
def k0_off27 (k0_t1 : Fin k0_t1_loop.trips) : Fin 2 → Nat :=
  let c0_i32_317 : BitVec 32 := 0#32
  let c0_i32_51 : BitVec 32 := 0#32
  let c1_i32_53 : BitVec 32 := 1#32
  let arg15 : BitVec 32 := Scf.iv c0_i32_51 c1_i32_53 k0_t1
  let c1_i32_316 : BitVec 32 := 1#32
  let v501 : BitVec 32 := Scalar.muli arg15 c1_i32_316
  let v502 : BitVec 32 := Scalar.addi c0_i32_317 v501
  let v541 : Index := Scalar.indexCast v502
  let c112_337 : Index := 112#32
  ![v541.toNat, 112]
@[reducible] def k0_t4_loop : Scf.Loop 32 :=
  let c0_i32_62 : BitVec 32 := 0#32
  let c8_i32_63 : BitVec 32 := 8#32
  let v121 : BitVec 32 := Scalar.addi c0_i32_62 c8_i32_63
  let c1_i32_64 : BitVec 32 := 1#32
  ⟨c0_i32_62, v121, c1_i32_64⟩
def k0_off28 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v514 : Index := Scalar.indexCast v502
  let c0_320 : Index := 0#32
  ![v514.toNat, 0]
def k0_off29 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v516 : Index := Scalar.indexCast v502
  let c16_321 : Index := 16#32
  ![v516.toNat, 16]
def k0_off30 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v518 : Index := Scalar.indexCast v502
  let c32_322 : Index := 32#32
  ![v518.toNat, 32]
def k0_off31 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v520 : Index := Scalar.indexCast v502
  let c48_323 : Index := 48#32
  ![v520.toNat, 48]
def k0_off32 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v522 : Index := Scalar.indexCast v502
  let c64_324 : Index := 64#32
  ![v522.toNat, 64]
def k0_off33 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v524 : Index := Scalar.indexCast v502
  let c80_325 : Index := 80#32
  ![v524.toNat, 80]
def k0_off34 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v526 : Index := Scalar.indexCast v502
  let c96_326 : Index := 96#32
  ![v526.toNat, 96]
def k0_off35 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v528 : Index := Scalar.indexCast v502
  let c112_327 : Index := 112#32
  ![v528.toNat, 112]
@[reducible] def k0_t5_loop (v509 : BitVec 32) (v513 : BitVec 32) : Scf.Loop 32 :=
  let c0_i32_334 : BitVec 32 := 0#32
  let c256_i32_329 : BitVec 32 := 256#32
  let v531 : BitVec 32 := Scalar.maxsi v513 c256_i32_329
  let c256_i32_328 : BitVec 32 := 256#32
  let v530 : BitVec 32 := Scalar.maxsi v509 c256_i32_328
  let v532 : BitVec 32 := Scalar.subi v531 v530
  let c1_i32_330 : BitVec 32 := 1#32
  let c1_i32_331 : BitVec 32 := 1#32
  let v533 : BitVec 32 := Scalar.subi c1_i32_330 c1_i32_331
  let v534 : BitVec 32 := Scalar.addi v532 v533
  let c1_i32_332 : BitVec 32 := 1#32
  let v535 : BitVec 32 := Scalar.divsi v534 c1_i32_332
  let v536 : BitVec 32 := Scalar.subi v535 c0_i32_334
  let c1_i32_335 : BitVec 32 := 1#32
  let v538 : BitVec 32 := Scalar.divsi v536 c1_i32_335
  let v539 : BitVec 32 := Scalar.muli v538 c1_i32_335
  let v540 : BitVec 32 := Scalar.addi c0_i32_334 v539
  let c1_i32_336 : BitVec 32 := 1#32
  ⟨c0_i32_334, v540, c1_i32_336⟩

def k0_off36 (v509 : BitVec 32) (v513 : BitVec 32) (k0_t5 : Fin (k0_t5_loop v509 v513).trips) : Fin 2 → Nat :=
  let c256_i32_328 : BitVec 32 := 256#32
  let v530 : BitVec 32 := Scalar.maxsi v509 c256_i32_328
  let c0_i32_334 : BitVec 32 := 0#32
  let c1_i32_336 : BitVec 32 := 1#32
  let arg16 : BitVec 32 := Scf.iv c0_i32_334 c1_i32_336 k0_t5
  let c1_i32_333 : BitVec 32 := 1#32
  let v559 : BitVec 32 := Scalar.muli arg16 c1_i32_333
  let v560 : BitVec 32 := Scalar.addi v530 v559
  let v561 : Index := Scalar.indexCast v560
  let c0_346 : Index := 0#32
  ![v561.toNat, 0]
def k0_off37 (v509 : BitVec 32) (v513 : BitVec 32) (k0_t5 : Fin (k0_t5_loop v509 v513).trips) : Fin 2 → Nat :=
  let c256_i32_328 : BitVec 32 := 256#32
  let v530 : BitVec 32 := Scalar.maxsi v509 c256_i32_328
  let c0_i32_334 : BitVec 32 := 0#32
  let c1_i32_336 : BitVec 32 := 1#32
  let arg16 : BitVec 32 := Scf.iv c0_i32_334 c1_i32_336 k0_t5
  let c1_i32_333 : BitVec 32 := 1#32
  let v559 : BitVec 32 := Scalar.muli arg16 c1_i32_333
  let v560 : BitVec 32 := Scalar.addi v530 v559
  let v564 : Index := Scalar.indexCast v560
  let c16_347 : Index := 16#32
  ![v564.toNat, 16]
def k0_off38 (v509 : BitVec 32) (v513 : BitVec 32) (k0_t5 : Fin (k0_t5_loop v509 v513).trips) : Fin 2 → Nat :=
  let c256_i32_328 : BitVec 32 := 256#32
  let v530 : BitVec 32 := Scalar.maxsi v509 c256_i32_328
  let c0_i32_334 : BitVec 32 := 0#32
  let c1_i32_336 : BitVec 32 := 1#32
  let arg16 : BitVec 32 := Scf.iv c0_i32_334 c1_i32_336 k0_t5
  let c1_i32_333 : BitVec 32 := 1#32
  let v559 : BitVec 32 := Scalar.muli arg16 c1_i32_333
  let v560 : BitVec 32 := Scalar.addi v530 v559
  let v567 : Index := Scalar.indexCast v560
  let c32_348 : Index := 32#32
  ![v567.toNat, 32]
def k0_off39 (v509 : BitVec 32) (v513 : BitVec 32) (k0_t5 : Fin (k0_t5_loop v509 v513).trips) : Fin 2 → Nat :=
  let c256_i32_328 : BitVec 32 := 256#32
  let v530 : BitVec 32 := Scalar.maxsi v509 c256_i32_328
  let c0_i32_334 : BitVec 32 := 0#32
  let c1_i32_336 : BitVec 32 := 1#32
  let arg16 : BitVec 32 := Scf.iv c0_i32_334 c1_i32_336 k0_t5
  let c1_i32_333 : BitVec 32 := 1#32
  let v559 : BitVec 32 := Scalar.muli arg16 c1_i32_333
  let v560 : BitVec 32 := Scalar.addi v530 v559
  let v570 : Index := Scalar.indexCast v560
  let c48_349 : Index := 48#32
  ![v570.toNat, 48]
def k0_off40 (v509 : BitVec 32) (v513 : BitVec 32) (k0_t5 : Fin (k0_t5_loop v509 v513).trips) : Fin 2 → Nat :=
  let c256_i32_328 : BitVec 32 := 256#32
  let v530 : BitVec 32 := Scalar.maxsi v509 c256_i32_328
  let c0_i32_334 : BitVec 32 := 0#32
  let c1_i32_336 : BitVec 32 := 1#32
  let arg16 : BitVec 32 := Scf.iv c0_i32_334 c1_i32_336 k0_t5
  let c1_i32_333 : BitVec 32 := 1#32
  let v559 : BitVec 32 := Scalar.muli arg16 c1_i32_333
  let v560 : BitVec 32 := Scalar.addi v530 v559
  let v573 : Index := Scalar.indexCast v560
  let c64_350 : Index := 64#32
  ![v573.toNat, 64]
def k0_off41 (v509 : BitVec 32) (v513 : BitVec 32) (k0_t5 : Fin (k0_t5_loop v509 v513).trips) : Fin 2 → Nat :=
  let c256_i32_328 : BitVec 32 := 256#32
  let v530 : BitVec 32 := Scalar.maxsi v509 c256_i32_328
  let c0_i32_334 : BitVec 32 := 0#32
  let c1_i32_336 : BitVec 32 := 1#32
  let arg16 : BitVec 32 := Scf.iv c0_i32_334 c1_i32_336 k0_t5
  let c1_i32_333 : BitVec 32 := 1#32
  let v559 : BitVec 32 := Scalar.muli arg16 c1_i32_333
  let v560 : BitVec 32 := Scalar.addi v530 v559
  let v576 : Index := Scalar.indexCast v560
  let c80_351 : Index := 80#32
  ![v576.toNat, 80]
def k0_off42 (v509 : BitVec 32) (v513 : BitVec 32) (k0_t5 : Fin (k0_t5_loop v509 v513).trips) : Fin 2 → Nat :=
  let c256_i32_328 : BitVec 32 := 256#32
  let v530 : BitVec 32 := Scalar.maxsi v509 c256_i32_328
  let c0_i32_334 : BitVec 32 := 0#32
  let c1_i32_336 : BitVec 32 := 1#32
  let arg16 : BitVec 32 := Scf.iv c0_i32_334 c1_i32_336 k0_t5
  let c1_i32_333 : BitVec 32 := 1#32
  let v559 : BitVec 32 := Scalar.muli arg16 c1_i32_333
  let v560 : BitVec 32 := Scalar.addi v530 v559
  let v579 : Index := Scalar.indexCast v560
  let c96_352 : Index := 96#32
  ![v579.toNat, 96]
def k0_off43 (v509 : BitVec 32) (v513 : BitVec 32) (k0_t5 : Fin (k0_t5_loop v509 v513).trips) : Fin 2 → Nat :=
  let c256_i32_328 : BitVec 32 := 256#32
  let v530 : BitVec 32 := Scalar.maxsi v509 c256_i32_328
  let c0_i32_334 : BitVec 32 := 0#32
  let c1_i32_336 : BitVec 32 := 1#32
  let arg16 : BitVec 32 := Scf.iv c0_i32_334 c1_i32_336 k0_t5
  let c1_i32_333 : BitVec 32 := 1#32
  let v559 : BitVec 32 := Scalar.muli arg16 c1_i32_333
  let v560 : BitVec 32 := Scalar.addi v530 v559
  let v582 : Index := Scalar.indexCast v560
  let c112_353 : Index := 112#32
  ![v582.toNat, 112]
@[reducible] def k0_t6_loop (v509 : BitVec 32) (v513 : BitVec 32) : Scf.Loop 32 :=
  let c0_i32_334 : BitVec 32 := 0#32
  let c256_i32_329 : BitVec 32 := 256#32
  let v531 : BitVec 32 := Scalar.maxsi v513 c256_i32_329
  let c256_i32_328 : BitVec 32 := 256#32
  let v530 : BitVec 32 := Scalar.maxsi v509 c256_i32_328
  let v532 : BitVec 32 := Scalar.subi v531 v530
  let c1_i32_330 : BitVec 32 := 1#32
  let c1_i32_331 : BitVec 32 := 1#32
  let v533 : BitVec 32 := Scalar.subi c1_i32_330 c1_i32_331
  let v534 : BitVec 32 := Scalar.addi v532 v533
  let c1_i32_332 : BitVec 32 := 1#32
  let v535 : BitVec 32 := Scalar.divsi v534 c1_i32_332
  let v536 : BitVec 32 := Scalar.subi v535 c0_i32_334
  let c1_i32_335 : BitVec 32 := 1#32
  let v538 : BitVec 32 := Scalar.divsi v536 c1_i32_335
  let v539 : BitVec 32 := Scalar.muli v538 c1_i32_335
  let v540 : BitVec 32 := Scalar.addi c0_i32_334 v539
  let v537 : BitVec 32 := Scalar.addi c0_i32_334 v536
  let c1_i32_337 : BitVec 32 := 1#32
  ⟨v540, v537, c1_i32_337⟩
def k0_off44 (v509 : BitVec 32) (v513 : BitVec 32) (k0_t6 : Fin (k0_t6_loop v509 v513).trips) : Fin 2 → Nat :=
  let c256_i32_328 : BitVec 32 := 256#32
  let v530 : BitVec 32 := Scalar.maxsi v509 c256_i32_328
  let c0_i32_334 : BitVec 32 := 0#32
  let c256_i32_329 : BitVec 32 := 256#32
  let v531 : BitVec 32 := Scalar.maxsi v513 c256_i32_329
  let v532 : BitVec 32 := Scalar.subi v531 v530
  let c1_i32_330 : BitVec 32 := 1#32
  let c1_i32_331 : BitVec 32 := 1#32
  let v533 : BitVec 32 := Scalar.subi c1_i32_330 c1_i32_331
  let v534 : BitVec 32 := Scalar.addi v532 v533
  let c1_i32_332 : BitVec 32 := 1#32
  let v535 : BitVec 32 := Scalar.divsi v534 c1_i32_332
  let v536 : BitVec 32 := Scalar.subi v535 c0_i32_334
  let c1_i32_335 : BitVec 32 := 1#32
  let v538 : BitVec 32 := Scalar.divsi v536 c1_i32_335
  let v539 : BitVec 32 := Scalar.muli v538 c1_i32_335
  let v540 : BitVec 32 := Scalar.addi c0_i32_334 v539
  let c1_i32_337 : BitVec 32 := 1#32
  let arg16 : BitVec 32 := Scf.iv v540 c1_i32_337 k0_t6
  let c1_i32_333 : BitVec 32 := 1#32
  let v559 : BitVec 32 := Scalar.muli arg16 c1_i32_333
  let v560 : BitVec 32 := Scalar.addi v530 v559
  let v561 : Index := Scalar.indexCast v560
  let c0_346 : Index := 0#32
  ![v561.toNat, 0]
def k0_off45 (v509 : BitVec 32) (v513 : BitVec 32) (k0_t6 : Fin (k0_t6_loop v509 v513).trips) : Fin 2 → Nat :=
  let c256_i32_328 : BitVec 32 := 256#32
  let v530 : BitVec 32 := Scalar.maxsi v509 c256_i32_328
  let c0_i32_334 : BitVec 32 := 0#32
  let c256_i32_329 : BitVec 32 := 256#32
  let v531 : BitVec 32 := Scalar.maxsi v513 c256_i32_329
  let v532 : BitVec 32 := Scalar.subi v531 v530
  let c1_i32_330 : BitVec 32 := 1#32
  let c1_i32_331 : BitVec 32 := 1#32
  let v533 : BitVec 32 := Scalar.subi c1_i32_330 c1_i32_331
  let v534 : BitVec 32 := Scalar.addi v532 v533
  let c1_i32_332 : BitVec 32 := 1#32
  let v535 : BitVec 32 := Scalar.divsi v534 c1_i32_332
  let v536 : BitVec 32 := Scalar.subi v535 c0_i32_334
  let c1_i32_335 : BitVec 32 := 1#32
  let v538 : BitVec 32 := Scalar.divsi v536 c1_i32_335
  let v539 : BitVec 32 := Scalar.muli v538 c1_i32_335
  let v540 : BitVec 32 := Scalar.addi c0_i32_334 v539
  let c1_i32_337 : BitVec 32 := 1#32
  let arg16 : BitVec 32 := Scf.iv v540 c1_i32_337 k0_t6
  let c1_i32_333 : BitVec 32 := 1#32
  let v559 : BitVec 32 := Scalar.muli arg16 c1_i32_333
  let v560 : BitVec 32 := Scalar.addi v530 v559
  let v564 : Index := Scalar.indexCast v560
  let c16_347 : Index := 16#32
  ![v564.toNat, 16]
def k0_off46 (v509 : BitVec 32) (v513 : BitVec 32) (k0_t6 : Fin (k0_t6_loop v509 v513).trips) : Fin 2 → Nat :=
  let c256_i32_328 : BitVec 32 := 256#32
  let v530 : BitVec 32 := Scalar.maxsi v509 c256_i32_328
  let c0_i32_334 : BitVec 32 := 0#32
  let c256_i32_329 : BitVec 32 := 256#32
  let v531 : BitVec 32 := Scalar.maxsi v513 c256_i32_329
  let v532 : BitVec 32 := Scalar.subi v531 v530
  let c1_i32_330 : BitVec 32 := 1#32
  let c1_i32_331 : BitVec 32 := 1#32
  let v533 : BitVec 32 := Scalar.subi c1_i32_330 c1_i32_331
  let v534 : BitVec 32 := Scalar.addi v532 v533
  let c1_i32_332 : BitVec 32 := 1#32
  let v535 : BitVec 32 := Scalar.divsi v534 c1_i32_332
  let v536 : BitVec 32 := Scalar.subi v535 c0_i32_334
  let c1_i32_335 : BitVec 32 := 1#32
  let v538 : BitVec 32 := Scalar.divsi v536 c1_i32_335
  let v539 : BitVec 32 := Scalar.muli v538 c1_i32_335
  let v540 : BitVec 32 := Scalar.addi c0_i32_334 v539
  let c1_i32_337 : BitVec 32 := 1#32
  let arg16 : BitVec 32 := Scf.iv v540 c1_i32_337 k0_t6
  let c1_i32_333 : BitVec 32 := 1#32
  let v559 : BitVec 32 := Scalar.muli arg16 c1_i32_333
  let v560 : BitVec 32 := Scalar.addi v530 v559
  let v567 : Index := Scalar.indexCast v560
  let c32_348 : Index := 32#32
  ![v567.toNat, 32]
def k0_off47 (v509 : BitVec 32) (v513 : BitVec 32) (k0_t6 : Fin (k0_t6_loop v509 v513).trips) : Fin 2 → Nat :=
  let c256_i32_328 : BitVec 32 := 256#32
  let v530 : BitVec 32 := Scalar.maxsi v509 c256_i32_328
  let c0_i32_334 : BitVec 32 := 0#32
  let c256_i32_329 : BitVec 32 := 256#32
  let v531 : BitVec 32 := Scalar.maxsi v513 c256_i32_329
  let v532 : BitVec 32 := Scalar.subi v531 v530
  let c1_i32_330 : BitVec 32 := 1#32
  let c1_i32_331 : BitVec 32 := 1#32
  let v533 : BitVec 32 := Scalar.subi c1_i32_330 c1_i32_331
  let v534 : BitVec 32 := Scalar.addi v532 v533
  let c1_i32_332 : BitVec 32 := 1#32
  let v535 : BitVec 32 := Scalar.divsi v534 c1_i32_332
  let v536 : BitVec 32 := Scalar.subi v535 c0_i32_334
  let c1_i32_335 : BitVec 32 := 1#32
  let v538 : BitVec 32 := Scalar.divsi v536 c1_i32_335
  let v539 : BitVec 32 := Scalar.muli v538 c1_i32_335
  let v540 : BitVec 32 := Scalar.addi c0_i32_334 v539
  let c1_i32_337 : BitVec 32 := 1#32
  let arg16 : BitVec 32 := Scf.iv v540 c1_i32_337 k0_t6
  let c1_i32_333 : BitVec 32 := 1#32
  let v559 : BitVec 32 := Scalar.muli arg16 c1_i32_333
  let v560 : BitVec 32 := Scalar.addi v530 v559
  let v570 : Index := Scalar.indexCast v560
  let c48_349 : Index := 48#32
  ![v570.toNat, 48]
def k0_off48 (v509 : BitVec 32) (v513 : BitVec 32) (k0_t6 : Fin (k0_t6_loop v509 v513).trips) : Fin 2 → Nat :=
  let c256_i32_328 : BitVec 32 := 256#32
  let v530 : BitVec 32 := Scalar.maxsi v509 c256_i32_328
  let c0_i32_334 : BitVec 32 := 0#32
  let c256_i32_329 : BitVec 32 := 256#32
  let v531 : BitVec 32 := Scalar.maxsi v513 c256_i32_329
  let v532 : BitVec 32 := Scalar.subi v531 v530
  let c1_i32_330 : BitVec 32 := 1#32
  let c1_i32_331 : BitVec 32 := 1#32
  let v533 : BitVec 32 := Scalar.subi c1_i32_330 c1_i32_331
  let v534 : BitVec 32 := Scalar.addi v532 v533
  let c1_i32_332 : BitVec 32 := 1#32
  let v535 : BitVec 32 := Scalar.divsi v534 c1_i32_332
  let v536 : BitVec 32 := Scalar.subi v535 c0_i32_334
  let c1_i32_335 : BitVec 32 := 1#32
  let v538 : BitVec 32 := Scalar.divsi v536 c1_i32_335
  let v539 : BitVec 32 := Scalar.muli v538 c1_i32_335
  let v540 : BitVec 32 := Scalar.addi c0_i32_334 v539
  let c1_i32_337 : BitVec 32 := 1#32
  let arg16 : BitVec 32 := Scf.iv v540 c1_i32_337 k0_t6
  let c1_i32_333 : BitVec 32 := 1#32
  let v559 : BitVec 32 := Scalar.muli arg16 c1_i32_333
  let v560 : BitVec 32 := Scalar.addi v530 v559
  let v573 : Index := Scalar.indexCast v560
  let c64_350 : Index := 64#32
  ![v573.toNat, 64]
def k0_off49 (v509 : BitVec 32) (v513 : BitVec 32) (k0_t6 : Fin (k0_t6_loop v509 v513).trips) : Fin 2 → Nat :=
  let c256_i32_328 : BitVec 32 := 256#32
  let v530 : BitVec 32 := Scalar.maxsi v509 c256_i32_328
  let c0_i32_334 : BitVec 32 := 0#32
  let c256_i32_329 : BitVec 32 := 256#32
  let v531 : BitVec 32 := Scalar.maxsi v513 c256_i32_329
  let v532 : BitVec 32 := Scalar.subi v531 v530
  let c1_i32_330 : BitVec 32 := 1#32
  let c1_i32_331 : BitVec 32 := 1#32
  let v533 : BitVec 32 := Scalar.subi c1_i32_330 c1_i32_331
  let v534 : BitVec 32 := Scalar.addi v532 v533
  let c1_i32_332 : BitVec 32 := 1#32
  let v535 : BitVec 32 := Scalar.divsi v534 c1_i32_332
  let v536 : BitVec 32 := Scalar.subi v535 c0_i32_334
  let c1_i32_335 : BitVec 32 := 1#32
  let v538 : BitVec 32 := Scalar.divsi v536 c1_i32_335
  let v539 : BitVec 32 := Scalar.muli v538 c1_i32_335
  let v540 : BitVec 32 := Scalar.addi c0_i32_334 v539
  let c1_i32_337 : BitVec 32 := 1#32
  let arg16 : BitVec 32 := Scf.iv v540 c1_i32_337 k0_t6
  let c1_i32_333 : BitVec 32 := 1#32
  let v559 : BitVec 32 := Scalar.muli arg16 c1_i32_333
  let v560 : BitVec 32 := Scalar.addi v530 v559
  let v576 : Index := Scalar.indexCast v560
  let c80_351 : Index := 80#32
  ![v576.toNat, 80]
def k0_off50 (v509 : BitVec 32) (v513 : BitVec 32) (k0_t6 : Fin (k0_t6_loop v509 v513).trips) : Fin 2 → Nat :=
  let c256_i32_328 : BitVec 32 := 256#32
  let v530 : BitVec 32 := Scalar.maxsi v509 c256_i32_328
  let c0_i32_334 : BitVec 32 := 0#32
  let c256_i32_329 : BitVec 32 := 256#32
  let v531 : BitVec 32 := Scalar.maxsi v513 c256_i32_329
  let v532 : BitVec 32 := Scalar.subi v531 v530
  let c1_i32_330 : BitVec 32 := 1#32
  let c1_i32_331 : BitVec 32 := 1#32
  let v533 : BitVec 32 := Scalar.subi c1_i32_330 c1_i32_331
  let v534 : BitVec 32 := Scalar.addi v532 v533
  let c1_i32_332 : BitVec 32 := 1#32
  let v535 : BitVec 32 := Scalar.divsi v534 c1_i32_332
  let v536 : BitVec 32 := Scalar.subi v535 c0_i32_334
  let c1_i32_335 : BitVec 32 := 1#32
  let v538 : BitVec 32 := Scalar.divsi v536 c1_i32_335
  let v539 : BitVec 32 := Scalar.muli v538 c1_i32_335
  let v540 : BitVec 32 := Scalar.addi c0_i32_334 v539
  let c1_i32_337 : BitVec 32 := 1#32
  let arg16 : BitVec 32 := Scf.iv v540 c1_i32_337 k0_t6
  let c1_i32_333 : BitVec 32 := 1#32
  let v559 : BitVec 32 := Scalar.muli arg16 c1_i32_333
  let v560 : BitVec 32 := Scalar.addi v530 v559
  let v579 : Index := Scalar.indexCast v560
  let c96_352 : Index := 96#32
  ![v579.toNat, 96]
def k0_off51 (v509 : BitVec 32) (v513 : BitVec 32) (k0_t6 : Fin (k0_t6_loop v509 v513).trips) : Fin 2 → Nat :=
  let c256_i32_328 : BitVec 32 := 256#32
  let v530 : BitVec 32 := Scalar.maxsi v509 c256_i32_328
  let c0_i32_334 : BitVec 32 := 0#32
  let c256_i32_329 : BitVec 32 := 256#32
  let v531 : BitVec 32 := Scalar.maxsi v513 c256_i32_329
  let v532 : BitVec 32 := Scalar.subi v531 v530
  let c1_i32_330 : BitVec 32 := 1#32
  let c1_i32_331 : BitVec 32 := 1#32
  let v533 : BitVec 32 := Scalar.subi c1_i32_330 c1_i32_331
  let v534 : BitVec 32 := Scalar.addi v532 v533
  let c1_i32_332 : BitVec 32 := 1#32
  let v535 : BitVec 32 := Scalar.divsi v534 c1_i32_332
  let v536 : BitVec 32 := Scalar.subi v535 c0_i32_334
  let c1_i32_335 : BitVec 32 := 1#32
  let v538 : BitVec 32 := Scalar.divsi v536 c1_i32_335
  let v539 : BitVec 32 := Scalar.muli v538 c1_i32_335
  let v540 : BitVec 32 := Scalar.addi c0_i32_334 v539
  let c1_i32_337 : BitVec 32 := 1#32
  let arg16 : BitVec 32 := Scf.iv v540 c1_i32_337 k0_t6
  let c1_i32_333 : BitVec 32 := 1#32
  let v559 : BitVec 32 := Scalar.muli arg16 c1_i32_333
  let v560 : BitVec 32 := Scalar.addi v530 v559
  let v582 : Index := Scalar.indexCast v560
  let c112_353 : Index := 112#32
  ![v582.toNat, 112]

def k0_chk2 (v509 : BitVec 32) (v513 : BitVec 32) : Prop :=
  ((k0_t5_loop v509 v513).OK) ∧
  (∀ k0_t5 : Fin (k0_t5_loop v509 v513).trips, ∀ a, (k0_off36 v509 v513 k0_t5) a + S1x16.size a ≤ S512x128.size a) ∧
  (∀ k0_t5 : Fin (k0_t5_loop v509 v513).trips, ∀ a, (k0_off37 v509 v513 k0_t5) a + S1x16.size a ≤ S512x128.size a) ∧
  (∀ k0_t5 : Fin (k0_t5_loop v509 v513).trips, ∀ a, (k0_off38 v509 v513 k0_t5) a + S1x16.size a ≤ S512x128.size a) ∧
  (∀ k0_t5 : Fin (k0_t5_loop v509 v513).trips, ∀ a, (k0_off39 v509 v513 k0_t5) a + S1x16.size a ≤ S512x128.size a) ∧
  (∀ k0_t5 : Fin (k0_t5_loop v509 v513).trips, ∀ a, (k0_off40 v509 v513 k0_t5) a + S1x16.size a ≤ S512x128.size a) ∧
  (∀ k0_t5 : Fin (k0_t5_loop v509 v513).trips, ∀ a, (k0_off41 v509 v513 k0_t5) a + S1x16.size a ≤ S512x128.size a) ∧
  (∀ k0_t5 : Fin (k0_t5_loop v509 v513).trips, ∀ a, (k0_off42 v509 v513 k0_t5) a + S1x16.size a ≤ S512x128.size a) ∧
  (∀ k0_t5 : Fin (k0_t5_loop v509 v513).trips, ∀ a, (k0_off43 v509 v513 k0_t5) a + S1x16.size a ≤ S512x128.size a) ∧
  ((k0_t6_loop v509 v513).OK) ∧
  (∀ k0_t6 : Fin (k0_t6_loop v509 v513).trips, ∀ a, (k0_off44 v509 v513 k0_t6) a + S1x16.size a ≤ S512x128.size a) ∧
  (∀ k0_t6 : Fin (k0_t6_loop v509 v513).trips, ∀ a, (k0_off45 v509 v513 k0_t6) a + S1x16.size a ≤ S512x128.size a) ∧
  (∀ k0_t6 : Fin (k0_t6_loop v509 v513).trips, ∀ a, (k0_off46 v509 v513 k0_t6) a + S1x16.size a ≤ S512x128.size a) ∧
  (∀ k0_t6 : Fin (k0_t6_loop v509 v513).trips, ∀ a, (k0_off47 v509 v513 k0_t6) a + S1x16.size a ≤ S512x128.size a) ∧
  (∀ k0_t6 : Fin (k0_t6_loop v509 v513).trips, ∀ a, (k0_off48 v509 v513 k0_t6) a + S1x16.size a ≤ S512x128.size a) ∧
  (∀ k0_t6 : Fin (k0_t6_loop v509 v513).trips, ∀ a, (k0_off49 v509 v513 k0_t6) a + S1x16.size a ≤ S512x128.size a) ∧
  (∀ k0_t6 : Fin (k0_t6_loop v509 v513).trips, ∀ a, (k0_off50 v509 v513 k0_t6) a + S1x16.size a ≤ S512x128.size a) ∧
  (∀ k0_t6 : Fin (k0_t6_loop v509 v513).trips, ∀ a, (k0_off51 v509 v513 k0_t6) a + S1x16.size a ≤ S512x128.size a)
theorem k0_t5_ok : ∀ (v509 : BitVec 32) (v513 : BitVec 32) (k0_hw2 : k0_chk2 v509 v513), (k0_t5_loop v509 v513).OK := fun v509 v513 k0_hw2 => k0_hw2.1
theorem k0_off36_inb : ∀ (v509 : BitVec 32) (v513 : BitVec 32) (k0_hw2 : k0_chk2 v509 v513) (k0_t5 : Fin (k0_t5_loop v509 v513).trips), ∀ a, (k0_off36 v509 v513 k0_t5) a + S1x16.size a ≤ S512x128.size a := fun v509 v513 k0_hw2 k0_t5 => k0_hw2.2.1 k0_t5
theorem k0_off37_inb : ∀ (v509 : BitVec 32) (v513 : BitVec 32) (k0_hw2 : k0_chk2 v509 v513) (k0_t5 : Fin (k0_t5_loop v509 v513).trips), ∀ a, (k0_off37 v509 v513 k0_t5) a + S1x16.size a ≤ S512x128.size a := fun v509 v513 k0_hw2 k0_t5 => k0_hw2.2.2.1 k0_t5
theorem k0_off38_inb : ∀ (v509 : BitVec 32) (v513 : BitVec 32) (k0_hw2 : k0_chk2 v509 v513) (k0_t5 : Fin (k0_t5_loop v509 v513).trips), ∀ a, (k0_off38 v509 v513 k0_t5) a + S1x16.size a ≤ S512x128.size a := fun v509 v513 k0_hw2 k0_t5 => k0_hw2.2.2.2.1 k0_t5
theorem k0_off39_inb : ∀ (v509 : BitVec 32) (v513 : BitVec 32) (k0_hw2 : k0_chk2 v509 v513) (k0_t5 : Fin (k0_t5_loop v509 v513).trips), ∀ a, (k0_off39 v509 v513 k0_t5) a + S1x16.size a ≤ S512x128.size a := fun v509 v513 k0_hw2 k0_t5 => k0_hw2.2.2.2.2.1 k0_t5
theorem k0_off40_inb : ∀ (v509 : BitVec 32) (v513 : BitVec 32) (k0_hw2 : k0_chk2 v509 v513) (k0_t5 : Fin (k0_t5_loop v509 v513).trips), ∀ a, (k0_off40 v509 v513 k0_t5) a + S1x16.size a ≤ S512x128.size a := fun v509 v513 k0_hw2 k0_t5 => k0_hw2.2.2.2.2.2.1 k0_t5
theorem k0_off41_inb : ∀ (v509 : BitVec 32) (v513 : BitVec 32) (k0_hw2 : k0_chk2 v509 v513) (k0_t5 : Fin (k0_t5_loop v509 v513).trips), ∀ a, (k0_off41 v509 v513 k0_t5) a + S1x16.size a ≤ S512x128.size a := fun v509 v513 k0_hw2 k0_t5 => k0_hw2.2.2.2.2.2.2.1 k0_t5
theorem k0_off42_inb : ∀ (v509 : BitVec 32) (v513 : BitVec 32) (k0_hw2 : k0_chk2 v509 v513) (k0_t5 : Fin (k0_t5_loop v509 v513).trips), ∀ a, (k0_off42 v509 v513 k0_t5) a + S1x16.size a ≤ S512x128.size a := fun v509 v513 k0_hw2 k0_t5 => k0_hw2.2.2.2.2.2.2.2.1 k0_t5
theorem k0_off43_inb : ∀ (v509 : BitVec 32) (v513 : BitVec 32) (k0_hw2 : k0_chk2 v509 v513) (k0_t5 : Fin (k0_t5_loop v509 v513).trips), ∀ a, (k0_off43 v509 v513 k0_t5) a + S1x16.size a ≤ S512x128.size a := fun v509 v513 k0_hw2 k0_t5 => k0_hw2.2.2.2.2.2.2.2.2.1 k0_t5
theorem k0_t6_ok : ∀ (v509 : BitVec 32) (v513 : BitVec 32) (k0_hw2 : k0_chk2 v509 v513), (k0_t6_loop v509 v513).OK := fun v509 v513 k0_hw2 => k0_hw2.2.2.2.2.2.2.2.2.2.1
theorem k0_off44_inb : ∀ (v509 : BitVec 32) (v513 : BitVec 32) (k0_hw2 : k0_chk2 v509 v513) (k0_t6 : Fin (k0_t6_loop v509 v513).trips), ∀ a, (k0_off44 v509 v513 k0_t6) a + S1x16.size a ≤ S512x128.size a := fun v509 v513 k0_hw2 k0_t6 => k0_hw2.2.2.2.2.2.2.2.2.2.2.1 k0_t6
theorem k0_off45_inb : ∀ (v509 : BitVec 32) (v513 : BitVec 32) (k0_hw2 : k0_chk2 v509 v513) (k0_t6 : Fin (k0_t6_loop v509 v513).trips), ∀ a, (k0_off45 v509 v513 k0_t6) a + S1x16.size a ≤ S512x128.size a := fun v509 v513 k0_hw2 k0_t6 => k0_hw2.2.2.2.2.2.2.2.2.2.2.2.1 k0_t6
theorem k0_off46_inb : ∀ (v509 : BitVec 32) (v513 : BitVec 32) (k0_hw2 : k0_chk2 v509 v513) (k0_t6 : Fin (k0_t6_loop v509 v513).trips), ∀ a, (k0_off46 v509 v513 k0_t6) a + S1x16.size a ≤ S512x128.size a := fun v509 v513 k0_hw2 k0_t6 => k0_hw2.2.2.2.2.2.2.2.2.2.2.2.2.1 k0_t6
theorem k0_off47_inb : ∀ (v509 : BitVec 32) (v513 : BitVec 32) (k0_hw2 : k0_chk2 v509 v513) (k0_t6 : Fin (k0_t6_loop v509 v513).trips), ∀ a, (k0_off47 v509 v513 k0_t6) a + S1x16.size a ≤ S512x128.size a := fun v509 v513 k0_hw2 k0_t6 => k0_hw2.2.2.2.2.2.2.2.2.2.2.2.2.2.1 k0_t6
theorem k0_off48_inb : ∀ (v509 : BitVec 32) (v513 : BitVec 32) (k0_hw2 : k0_chk2 v509 v513) (k0_t6 : Fin (k0_t6_loop v509 v513).trips), ∀ a, (k0_off48 v509 v513 k0_t6) a + S1x16.size a ≤ S512x128.size a := fun v509 v513 k0_hw2 k0_t6 => k0_hw2.2.2.2.2.2.2.2.2.2.2.2.2.2.2.1 k0_t6
theorem k0_off49_inb : ∀ (v509 : BitVec 32) (v513 : BitVec 32) (k0_hw2 : k0_chk2 v509 v513) (k0_t6 : Fin (k0_t6_loop v509 v513).trips), ∀ a, (k0_off49 v509 v513 k0_t6) a + S1x16.size a ≤ S512x128.size a := fun v509 v513 k0_hw2 k0_t6 => k0_hw2.2.2.2.2.2.2.2.2.2.2.2.2.2.2.2.1 k0_t6
theorem k0_off50_inb : ∀ (v509 : BitVec 32) (v513 : BitVec 32) (k0_hw2 : k0_chk2 v509 v513) (k0_t6 : Fin (k0_t6_loop v509 v513).trips), ∀ a, (k0_off50 v509 v513 k0_t6) a + S1x16.size a ≤ S512x128.size a := fun v509 v513 k0_hw2 k0_t6 => k0_hw2.2.2.2.2.2.2.2.2.2.2.2.2.2.2.2.2.1 k0_t6
theorem k0_off51_inb : ∀ (v509 : BitVec 32) (v513 : BitVec 32) (k0_hw2 : k0_chk2 v509 v513) (k0_t6 : Fin (k0_t6_loop v509 v513).trips), ∀ a, (k0_off51 v509 v513 k0_t6) a + S1x16.size a ≤ S512x128.size a := fun v509 v513 k0_hw2 k0_t6 => k0_hw2.2.2.2.2.2.2.2.2.2.2.2.2.2.2.2.2.2 k0_t6

def k0_off52 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v543 : Index := Scalar.indexCast v502
  let c0_338 : Index := 0#32
  ![v543.toNat, 0]
def k0_off53 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v545 : Index := Scalar.indexCast v502
  let c16_339 : Index := 16#32
  ![v545.toNat, 16]
def k0_off54 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v547 : Index := Scalar.indexCast v502
  let c32_340 : Index := 32#32
  ![v547.toNat, 32]
def k0_off55 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v549 : Index := Scalar.indexCast v502
  let c48_341 : Index := 48#32
  ![v549.toNat, 48]
def k0_off56 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v551 : Index := Scalar.indexCast v502
  let c64_342 : Index := 64#32
  ![v551.toNat, 64]
def k0_off57 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v553 : Index := Scalar.indexCast v502
  let c80_343 : Index := 80#32
  ![v553.toNat, 80]
def k0_off58 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v555 : Index := Scalar.indexCast v502
  let c96_344 : Index := 96#32
  ![v555.toNat, 96]
def k0_off59 (k0_t4 : Fin k0_t4_loop.trips) : Fin 2 → Nat :=
  let c0_i32_317 : BitVec 32 := 0#32
  let c0_i32_62 : BitVec 32 := 0#32
  let c1_i32_64 : BitVec 32 := 1#32
  let arg15 : BitVec 32 := Scf.iv c0_i32_62 c1_i32_64 k0_t4
  let c1_i32_316 : BitVec 32 := 1#32
  let v501 : BitVec 32 := Scalar.muli arg15 c1_i32_316
  let v502 : BitVec 32 := Scalar.addi c0_i32_317 v501
  let v557 : Index := Scalar.indexCast v502
  let c112_345 : Index := 112#32
  ![v557.toNat, 112]
def k0_off60 (i : grid0.Coords) : Fin 3 → Nat :=
  let arg1 : BitVec 32 := BitVec.ofNat 32 (i 1).val
  let c0_i32_316_r0 : BitVec 32 := 0#32
  let c0_i32_317_r0 : BitVec 32 := 0#32
  ![arg1.toNat, 0, 0]
def k0_off61 (i : grid0.Coords) : Fin 3 → Nat :=
  let c4_i32_67 : BitVec 32 := 4#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let v122 : BitVec 32 := Scalar.muli c4_i32_67 v28
  let c2_i32 : BitVec 32 := 2#32
  let c4_i32_17 : BitVec 32 := 4#32
  let c0_i32_18 : BitVec 32 := 0#32
  let v40 : BitVec 1 := Scalar.cmpi .eq c4_i32_17 c0_i32_18
  let c1_i32_19 : BitVec 32 := 1#32
  let v41 : BitVec 32 := Scalar.select v40 c1_i32_19 c4_i32_17
  let v42 : BitVec 32 := Scalar.remsi arg1 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.muli c2_i32 v49
  let c0_i32_316_r1 : BitVec 32 := 0#32
  ![v122.toNat, v50.toNat, 0]
def k0_off62 (i : grid0.Coords) (c0_i32_68 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let c2_i32 : BitVec 32 := 2#32
  let c4_i32_17 : BitVec 32 := 4#32
  let c0_i32_18 : BitVec 32 := 0#32
  let v40 : BitVec 1 := Scalar.cmpi .eq c4_i32_17 c0_i32_18
  let c1_i32_19 : BitVec 32 := 1#32
  let v41 : BitVec 32 := Scalar.select v40 c1_i32_19 c4_i32_17
  let v42 : BitVec 32 := Scalar.remsi arg1 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.muli c2_i32 v49
  let v123 : BitVec 32 := Scalar.addi v50 c0_i32_68
  let c0_i32_179 : BitVec 32 := 0#32
  ![v18.toNat, v123.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x2048x128 : Shape := ⟨3, ![8, 2048, 128]⟩
abbrev S8x8 : Shape := ⟨2, ![8, 8]⟩
abbrev S_ : Shape := ⟨0, ![]⟩
abbrev S8x1 : Shape := ⟨2, ![8, 1]⟩
abbrev S8x9 : Shape := ⟨2, ![8, 9]⟩
abbrev S2048 : Shape := ⟨1, ![2048]⟩
abbrev S2048x1 : Shape := ⟨2, ![2048, 1]⟩
abbrev S1x1x2048x1 : Shape := ⟨4, ![1, 1, 2048, 1]⟩
abbrev S1x1x1x1x1x2048x1x1 : Shape := ⟨8, ![1, 1, 1, 1, 1, 2048, 1, 1]⟩
abbrev S8x1x8x1x1x2048x128x1 : Shape := ⟨8, ![8, 1, 8, 1, 1, 2048, 128, 1]⟩
abbrev S8x8x2048x128 : Shape := ⟨4, ![8, 8, 2048, 128]⟩
abbrev S8x8x1x1 : Shape := ⟨4, ![8, 8, 1, 1]⟩
abbrev S64x2048x128 : Shape := ⟨3, ![64, 2048, 128]⟩
abbrev S8x8x128 : Shape := ⟨3, ![8, 8, 128]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x8, .i32⟩
  | .hbm, ⟨2, _⟩ => ⟨S_, .i32⟩
  | .hbm, ⟨3, _⟩ => ⟨S_, .i32⟩
  | .hbm, ⟨4, _⟩ => ⟨S8x8, .i32⟩
  | .hbm, ⟨5, _⟩ => ⟨S_, .f32⟩
  | .hbm, ⟨6, _⟩ => ⟨S8x1, .f32⟩
  | .hbm, ⟨7, _⟩ => ⟨S8x8, .f32⟩
  | .hbm, ⟨8, _⟩ => ⟨S8x9, .f32⟩
  | .hbm, ⟨9, _⟩ => ⟨S8x8, .f32⟩
  | .hbm, ⟨10, _⟩ => ⟨S2048, .i32⟩
  | .hbm, ⟨11, _⟩ => ⟨S2048x1, .i32⟩
  | .hbm, ⟨12, _⟩ => ⟨S1x1x2048x1, .i32⟩
  | .hbm, ⟨13, _⟩ => ⟨S1x1x1x1x1x2048x1x1, .i32⟩
  | .hbm, ⟨14, _⟩ => ⟨S8x1x8x1x1x2048x128x1, .i32⟩
  | .hbm, ⟨15, _⟩ => ⟨S8x8x2048x128, .i32⟩
  | .hbm, ⟨16, _⟩ => ⟨S8x8x1x1, .i32⟩
  | .hbm, ⟨17, _⟩ => ⟨S8x8x2048x128, .i32⟩
  | .hbm, ⟨18, _⟩ => ⟨S8x8x2048x128, .i1⟩
  | .hbm, ⟨19, _⟩ => ⟨S8x8x1x1, .f32⟩
  | .hbm, ⟨20, _⟩ => ⟨S8x8x2048x128, .f32⟩
  | .hbm, ⟨21, _⟩ => ⟨S8x8x2048x128, .f32⟩
  | .hbm, ⟨22, _⟩ => ⟨S8x8x2048x128, .i1⟩
  | .hbm, ⟨23, _⟩ => ⟨S8x8x2048x128, .i1⟩
  | .hbm, ⟨24, _⟩ => ⟨S8x8x2048x128, .f32⟩
  | .hbm, ⟨25, _⟩ => ⟨S64x2048x128, .f32⟩
  | .hbm, ⟨26, _⟩ => ⟨S8x8x2048x128, .f32⟩
  | .hbm, ⟨27, _⟩ => ⟨S_, .f32⟩
  | .hbm, ⟨28, _⟩ => ⟨S_, .f32⟩
  | .hbm, ⟨29, _⟩ => ⟨S8x8x2048x128, .f32⟩
  | .hbm, ⟨30, _⟩ => ⟨S8x8x2048x128, .f32⟩
  | .hbm, ⟨31, _⟩ => ⟨S_, .f32⟩
  | .hbm, ⟨32, _⟩ => ⟨S8x8x128, .f32⟩
  | .hbm, ⟨33, _⟩ => ⟨S8x8x2048x128, .i32⟩
  | .hbm, ⟨34, _⟩ => ⟨S_, .i32⟩
  | .hbm, ⟨35, _⟩ => ⟨S8x8x128, .i32⟩
  | .hbm, ⟨36, _⟩ => ⟨S_, .i32⟩
  | .hbm, ⟨37, _⟩ => ⟨S8x8x128, .i32⟩
  | .hbm, ⟨38, _⟩ => ⟨S8x8x128, .i1⟩
  | .hbm, ⟨39, _⟩ => ⟨S_, .f32⟩
  | .hbm, ⟨40, _⟩ => ⟨S_, .f32⟩
  | .hbm, ⟨41, _⟩ => ⟨S8x8x128, .f32⟩
  | .hbm, ⟨42, _⟩ => ⟨S8x8x128, .f32⟩
  | .hbm, ⟨43, _⟩ => ⟨S_, .i32⟩
  | .hbm, ⟨44, _⟩ => ⟨S8x8x128, .i32⟩
  | .hbm, ⟨45, _⟩ => ⟨S8x8x128, .i1⟩
  | .hbm, ⟨46, _⟩ => ⟨S_, .i32⟩
  | .hbm, ⟨47, _⟩ => ⟨S_, .i32⟩
  | .hbm, ⟨48, _⟩ => ⟨S8x8x128, .i32⟩
  | .hbm, ⟨49, _⟩ => ⟨S8x8x128, .i32⟩
  | .hbm, ⟨50, _⟩ => ⟨S8x8x128, .f32⟩
  | .hbm, ⟨51, _⟩ => ⟨S8x8x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_call2_v0 : Ref sig .tc := ⟨.hbm, 40, rfl⟩
abbrev main_call2_v1 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_call3_v0 : Ref sig .tc := ⟨.hbm, 47, rfl⟩
abbrev main_call3_v1 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Proof.Words.lean ====
/-
  The integer words of the pooling kernel, read as natural numbers: which batch, which quarter and which patches a
  tile works on, where its copies start, and how far the loops over the rows of its quarter run.

  A tile is named by a core `i 0` (of 2) and a subcore `i 1` (of 16). Core `c` holds batches `4c … 4c+3`; subcore `s`
  works on batch `4c + s / 4` and on quarter `s % 4` of that batch's 2048 rows.
-/
module

public import Idealize.ShloMosaic.Lib.LoopRemainder
public import Idealize.ShloMosaic.Lib.WordArith
public import Idealize.ShloMosaic.Lib.Tactic
public import proofs.«01_k».proof.Defs
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic Idealize.SL.Sem

/-! ## Which part of the problem a tile works on -/

/-- The batch of tile `i`. -/
def bat (i : grid0.Coords) : Nat := 4 * (i 0).val + (i 1).val / 4
/-- The quarter of the batch's rows tile `i` sums. -/
def qtr (i : grid0.Coords) : Nat := (i 1).val % 4
/-- The batch's place among its core's four. -/
def grp (i : grid0.Coords) : Nat := (i 1).val / 4
/-- The first of the sixteen lengths read for batch `b`: the batch's own eight start there, except for the last batch,
    whose sixteen start eight lower so that they lie among the 64. -/
def win0 (b : Nat) : Nat := min (8 * b) 48
/-- Where the batch's own eight lengths start among the sixteen read: 0, and 8 for the last batch. -/
def skip (b : Nat) : Nat := 8 * b - win0 b

theorem bat_lt (i : grid0.Coords) : bat i < 8 := by
  have h0 : (i 0).val < 2 := (i 0).isLt
  have h1 : (i 1).val < 16 := (i 1).isLt
  unfold bat; omega
theorem qtr_lt (i : grid0.Coords) : qtr i < 4 := Nat.mod_lt _ (by decide)
theorem grp_lt (i : grid0.Coords) : grp i < 4 := by
  have h1 : (i 1).val < 16 := (i 1).isLt
  unfold grp; omega
theorem win0_le (b : Nat) : win0 b ≤ 48 := Nat.min_le_right _ _
theorem skip_le {b : Nat} (h : b < 8) : skip b ≤ 8 := by
  unfold skip win0; omega

/-! ## Where the copies start -/

theorem off1_eq : ∀ i : grid0.Coords, k0_off1 i = ![win0 (bat i)] := by decide +kernel
theorem off2_eq : ∀ i : grid0.Coords, k0_off2 i = ![bat i, 512 * qtr i, 0] := by decide +kernel
theorem off3_eq : ∀ i : grid0.Coords, k0_off3 i = ![bat i, 512 * qtr i + 256, 0] := by decide +kernel
theorem off60_eq : ∀ i : grid0.Coords, k0_off60 i = ![(i 1).val, 0, 0] := by decide +kernel
theorem off61_eq : ∀ i : grid0.Coords, k0_off61 i = ![4 * grp i, 2 * qtr i, 0] := by decide +kernel
theorem off62_zero_eq : ∀ i : grid0.Coords, k0_off62 i 0#32 = ![bat i, 2 * qtr i, 0] := by decide +kernel
theorem off62_one_eq : ∀ i : grid0.Coords, k0_off62 i 1#32 = ![bat i, 2 * qtr i + 1, 0] := by decide +kernel

instance closedOff1 (i : grid0.Coords) : ClosedOff (k0_off1 i) := ⟨_, off1_eq i⟩
instance closedOff2 (i : grid0.Coords) : ClosedOff (k0_off2 i) := ⟨_, off2_eq i⟩
instance closedOff3 (i : grid0.Coords) : ClosedOff (k0_off3 i) := ⟨_, off3_eq i⟩
instance closedOff60 (i : grid0.Coords) : ClosedOff (k0_off60 i) := ⟨_, off60_eq i⟩
instance closedOff61 (i : grid0.Coords) : ClosedOff (k0_off61 i) := ⟨_, off61_eq i⟩
instance closedOff62_zero (i : grid0.Coords) : ClosedOff (k0_off62 i 0#32) := ⟨_, off62_zero_eq i⟩
instance closedOff62_one (i : grid0.Coords) : ClosedOff (k0_off62 i 1#32) := ⟨_, off62_one_eq i⟩

/-! ## The bounds of one patch within the quarter, and the loops over them -/

theorem toInt_of_le {x : BitVec 32} {n : Nat} (h : x.toNat ≤ n) (hn : n < 2 ^ 31) : x.toInt = x.toNat := by
  have : x.toNat < 2 ^ 31 := lt_of_le_of_lt h hn
  simp only [BitVec.toInt_eq_toNat_cond]; omega

/-- The smaller of a row number and 256. -/
theorem toInt_min256 {x : BitVec 32} (h : x.toNat ≤ 512) : (Scalar.minsi x 256#32).toInt = min x.toNat 256 := by
  have h1 := toInt_of_le h (by decide)
  have h2 : (256#32 : BitVec 32).toInt = 256 := by decide
  simp only [Scalar.minsi, IntOp.minsi, BitVec.slt, decide_eq_true_eq]
  split <;> omega

/-- The larger of a row number and 256. -/
theorem toInt_max256 {x : BitVec 32} (h : x.toNat ≤ 512) : (Scalar.maxsi x 256#32).toInt = max x.toNat 256 := by
  have h1 := toInt_of_le h (by decide)
  have h2 : (256#32 : BitVec 32).toInt = 256 := by decide
  simp only [Scalar.maxsi, IntOp.maxsi, BitVec.slt, decide_eq_true_eq]
  split <;> omega

/-- A word that is a small natural number read signed is that number read unsigned. -/
theorem toNat_of_toInt {x : BitVec 32} {n : Nat} (h : x.toInt = n) : x.toNat = n := by
  have := x.isLt
  simp only [BitVec.toInt_eq_toNat_cond] at h
  split at h <;> omega

/-- A division by one, and what is added to and taken from it around the loops, change nothing. -/
theorem count_word (x : BitVec 32) :
    Scalar.addi 0#32 (Scalar.muli (Scalar.divsi (Scalar.subi (Scalar.divsi (Scalar.addi x (Scalar.subi 1#32 1#32)) 1#32)
      0#32) 1#32) 1#32) = x := by
  rw [Scalar.muli_divsi_one]
  simp only [Scalar.addi, Scalar.subi, Scalar.divsi, IntOp.addi, IntOp.subi, WordArith.divsi_one, BitVec.zero_add,
    BitVec.sub_zero, BitVec.sub_self, BitVec.add_zero]

/-- The difference of two words that are small when read signed. -/
theorem toInt_subi {x y : BitVec 32} {a b : Int} (hx : x.toInt = a) (hy : y.toInt = b) (ha : 0 ≤ a ∧ a ≤ 512)
    (hb : 0 ≤ b ∧ b ≤ 512) : (Scalar.subi x y).toInt = a - b := by
  simp only [Scalar.subi, IntOp.subi, BitVec.toInt_sub, hx, hy]
  exact Int.bmod_eq_of_le (by omega) (by omega)

/-- A loop from 0 by steps of 1 runs once for each number below its bound. -/
theorem trips_zero_one {ub : BitVec 32} {n : Int} (h : ub.toInt = n) : Scf.trips 0#32 ub 1#32 = n.toNat := by
  have h0 : (0#32 : BitVec 32).toInt = 0 := by decide
  have h1 : (1#32 : BitVec 32).toInt = 1 := by decide
  unfold Scf.trips
  rw [h, h0, h1]
  congr 1; omega

theorem ok_zero_one {ub : BitVec 32} {n : Int} (h : ub.toInt = n) (hn : n ≤ 512) : Scf.OK 0#32 ub 1#32 := by
  have h0 : (0#32 : BitVec 32).toInt = 0 := by decide
  have h1 : (1#32 : BitVec 32).toInt = 1 := by decide
  unfold Scf.OK
  rw [trips_zero_one h, h0, h1]
  refine ⟨by decide, ?_⟩
  norm_num
  omega

theorem iv_zero_one (k : Nat) : Scf.iv 0#32 1#32 k = BitVec.ofNat 32 k := by
  simp [Scf.iv]

/-- A row number: a first row `x` plus a trip's number. -/
theorem row_word {x : BitVec 32} {a k : Nat} (hx : x.toInt = a) (ha : a + k ≤ 512) :
    (Scalar.indexCast (Scalar.addi x (Scalar.muli (Scf.iv 0#32 1#32 k) 1#32))).toNat = a + k := by
  have hx' := toNat_of_toInt hx
  simp only [Scalar.indexCast, Scalar.addi, Scalar.muli, IntOp.addi, IntOp.muli, iv_zero_one, BitVec.mul_one]
  rw [BitVec.toNat_add, hx', BitVec.toNat_ofNat]
  omega

section Loops
variable {lo hi : BitVec 32}

theorem t2_ub (hlo : lo.toNat ≤ 512) (hhi : hi.toNat ≤ 512) :
    (k0_t2_loop lo hi).ub.toInt = (min hi.toNat 256 : Nat) - (min lo.toNat 256 : Nat) := by
  show (Scalar.addi 0#32 _).toInt = _
  rw [count_word]
  rw [toInt_subi (toInt_min256 hhi) (toInt_min256 hlo) (by omega) (by omega)]

theorem t5_ub (hlo : lo.toNat ≤ 512) (hhi : hi.toNat ≤ 512) :
    (k0_t5_loop lo hi).ub.toInt = (max hi.toNat 256 : Nat) - (max lo.toNat 256 : Nat) := by
  show (Scalar.addi 0#32 _).toInt = _
  rw [count_word]
  rw [toInt_subi (toInt_max256 hhi) (toInt_max256 hlo) (by omega) (by omega)]

/-- The first loop takes the patch's rows below 256. -/
theorem t2_trips (hlo : lo.toNat ≤ 512) (hhi : hi.toNat ≤ 512) :
    (k0_t2_loop lo hi).trips = min hi.toNat 256 - min lo.toNat 256 :=
  (trips_zero_one (t2_ub hlo hhi)).trans (by omega)

/-- The second takes its rows from 256 on. -/
theorem t5_trips (hlo : lo.toNat ≤ 512) (hhi : hi.toNat ≤ 512) :
    (k0_t5_loop lo hi).trips = max hi.toNat 256 - max lo.toNat 256 :=
  (trips_zero_one (t5_ub hlo hhi)).trans (by omega)

theorem t2_row (hlo : lo.toNat ≤ 512) (hhi : hi.toNat ≤ 512) (k : Fin (k0_t2_loop lo hi).trips) :
    (Scalar.indexCast (Scalar.addi (Scalar.minsi lo 256#32) (Scalar.muli (Scf.iv 0#32 1#32 k) 1#32))).toNat
      = min lo.toNat 256 + k.val := by
  have hk := lt_of_lt_of_eq k.isLt (t2_trips hlo hhi)
  exact row_word (toInt_min256 hlo) (by omega)

theorem t5_row (hlo : lo.toNat ≤ 512) (hhi : hi.toNat ≤ 512) (k : Fin (k0_t5_loop lo hi).trips) :
    (Scalar.indexCast (Scalar.addi (Scalar.maxsi lo 256#32) (Scalar.muli (Scf.iv 0#32 1#32 k) 1#32))).toNat
      = max lo.toNat 256 + k.val := by
  have hk := lt_of_lt_of_eq k.isLt (t5_trips hlo hhi)
  exact row_word (toInt_max256 hlo) (by omega)

theorem off4_eq (hlo : lo.toNat ≤ 512) (hhi : hi.toNat ≤ 512) (k) : k0_off4 lo hi k = ![min lo.toNat 256 + k.val, 0] := by
  show ![_, _] = _; rw [t2_row hlo hhi]
theorem off5_eq (hlo : lo.toNat ≤ 512) (hhi : hi.toNat ≤ 512) (k) : k0_off5 lo hi k = ![min lo.toNat 256 + k.val, 16] := by
  show ![_, _] = _; rw [t2_row hlo hhi]
theorem off6_eq (hlo : lo.toNat ≤ 512) (hhi : hi.toNat ≤ 512) (k) : k0_off6 lo hi k = ![min lo.toNat 256 + k.val, 32] := by
  show ![_, _] = _; rw [t2_row hlo hhi]
theorem off7_eq (hlo : lo.toNat ≤ 512) (hhi : hi.toNat ≤ 512) (k) : k0_off7 lo hi k = ![min lo.toNat 256 + k.val, 48] := by
  show ![_, _] = _; rw [t2_row hlo hhi]
theorem off8_eq (hlo : lo.toNat ≤ 512) (hhi : hi.toNat ≤ 512) (k) : k0_off8 lo hi k = ![min lo.toNat 256 + k.val, 64] := by
  show ![_, _] = _; rw [t2_row hlo hhi]
theorem off9_eq (hlo : lo.toNat ≤ 512) (hhi : hi.toNat ≤ 512) (k) : k0_off9 lo hi k = ![min lo.toNat 256 + k.val, 80] := by
  show ![_, _] = _; rw [t2_row hlo hhi]
theorem off10_eq (hlo : lo.toNat ≤ 512) (hhi : hi.toNat ≤ 512) (k) : k0_off10 lo hi k = ![min lo.toNat 256 + k.val, 96] := by
  show ![_, _] = _; rw [t2_row hlo hhi]
theorem off11_eq (hlo : lo.toNat ≤ 512) (hhi : hi.toNat ≤ 512) (k) : k0_off11 lo hi k = ![min lo.toNat 256 + k.val, 112] := by
  show ![_, _] = _; rw [t2_row hlo hhi]
theorem off36_eq (hlo : lo.toNat ≤ 512) (hhi : hi.toNat ≤ 512) (k) : k0_off36 lo hi k = ![max lo.toNat 256 + k.val, 0] := by
  show ![_, _] = _; rw [t5_row hlo hhi]
theorem off37_eq (hlo : lo.toNat ≤ 512) (hhi : hi.toNat ≤ 512) (k) : k0_off37 lo hi k = ![max lo.toNat 256 + k.val, 16] := by
  show ![_, _] = _; rw [t5_row hlo hhi]
theorem off38_eq (hlo : lo.toNat ≤ 512) (hhi : hi.toNat ≤ 512) (k) : k0_off38 lo hi k = ![max lo.toNat 256 + k.val, 32] := by
  show ![_, _] = _; rw [t5_row hlo hhi]
theorem off39_eq (hlo : lo.toNat ≤ 512) (hhi : hi.toNat ≤ 512) (k) : k0_off39 lo hi k = ![max lo.toNat 256 + k.val, 48] := by
  show ![_, _] = _; rw [t5_row hlo hhi]
theorem off40_eq (hlo : lo.toNat ≤ 512) (hhi : hi.toNat ≤ 512) (k) : k0_off40 lo hi k = ![max lo.toNat 256 + k.val, 64] := by
  show ![_, _] = _; rw [t5_row hlo hhi]
theorem off41_eq (hlo : lo.toNat ≤ 512) (hhi : hi.toNat ≤ 512) (k) : k0_off41 lo hi k = ![max lo.toNat 256 + k.val, 80] := by
  show ![_, _] = _; rw [t5_row hlo hhi]
theorem off42_eq (hlo : lo.toNat ≤ 512) (hhi : hi.toNat ≤ 512) (k) : k0_off42 lo hi k = ![max lo.toNat 256 + k.val, 96] := by
  show ![_, _] = _; rw [t5_row hlo hhi]
theorem off43_eq (hlo : lo.toNat ≤ 512) (hhi : hi.toNat ≤ 512) (k) : k0_off43 lo hi k = ![max lo.toNat 256 + k.val, 112] := by
  show ![_, _] = _; rw [t5_row hlo hhi]

/-- A row of the quarter's buffer and sixteen of its columns lie inside the buffer. -/
theorem row_inb {r c : Nat} (hr : r < 512) (hc : c + 16 ≤ 128) (a : Fin 2) :
    (![r, c] : Fin 2 → Nat) a + S1x16.size a ≤ S512x128.size a := by
  match a with
  | ⟨0, _⟩ => show r + 1 ≤ 512; omega
  | ⟨1, _⟩ => show c + 16 ≤ 128; omega

/-- The checks before a patch's first loop hold of every pair of bounds that lie in the quarter. -/
theorem chk1_of_le (hlo : lo.toNat ≤ 512) (hhi : hi.toNat ≤ 512) : k0_chk1 lo hi := by
  have hr : ∀ k : Fin (k0_t2_loop lo hi).trips, min lo.toNat 256 + k.val < 512 := fun k => by
    have hk := lt_of_lt_of_eq k.isLt (t2_trips hlo hhi); omega
  have hn : ∀ k : Fin (k0_t3_loop lo hi).trips, False := fun k => Scf.rem_no_trip _ _ k
  refine ⟨ok_zero_one (t2_ub hlo hhi) (by omega), ?_, ?_, ?_, ?_, ?_, ?_, ?_, ?_, Scf.rem_ok _ _,
    fun k => (hn k).elim, fun k => (hn k).elim, fun k => (hn k).elim, fun k => (hn k).elim, fun k => (hn k).elim,
    fun k => (hn k).elim, fun k => (hn k).elim, fun k => (hn k).elim⟩
  all_goals intro k
  · rw [off4_eq hlo hhi]; exact row_inb (hr k) (by decide)
  · rw [off5_eq hlo hhi]; exact row_inb (hr k) (by decide)
  · rw [off6_eq hlo hhi]; exact row_inb (hr k) (by decide)
  · rw [off7_eq hlo hhi]; exact row_inb (hr k) (by decide)
  · rw [off8_eq hlo hhi]; exact row_inb (hr k) (by decide)
  · rw [off9_eq hlo hhi]; exact row_inb (hr k) (by decide)
  · rw [off10_eq hlo hhi]; exact row_inb (hr k) (by decide)
  · rw [off11_eq hlo hhi]; exact row_inb (hr k) (by decide)

/-- And those before its second loop. -/
theorem chk2_of_le (hlo : lo.toNat ≤ 512) (hhi : hi.toNat ≤ 512) : k0_chk2 lo hi := by
  have hr : ∀ k : Fin (k0_t5_loop lo hi).trips, max lo.toNat 256 + k.val < 512 := fun k => by
    have hk := lt_of_lt_of_eq k.isLt (t5_trips hlo hhi); omega
  have hn : ∀ k : Fin (k0_t6_loop lo hi).trips, False := fun k => Scf.rem_no_trip _ _ k
  refine ⟨ok_zero_one (t5_ub hlo hhi) (by omega), ?_, ?_, ?_, ?_, ?_, ?_, ?_, ?_, Scf.rem_ok _ _,
    fun k => (hn k).elim, fun k => (hn k).elim, fun k => (hn k).elim, fun k => (hn k).elim, fun k => (hn k).elim,
    fun k => (hn k).elim, fun k => (hn k).elim, fun k => (hn k).elim⟩
  all_goals intro k
  · rw [off36_eq hlo hhi]; exact row_inb (hr k) (by decide)
  · rw [off37_eq hlo hhi]; exact row_inb (hr k) (by decide)
  · rw [off38_eq hlo hhi]; exact row_inb (hr k) (by decide)
  · rw [off39_eq hlo hhi]; exact row_inb (hr k) (by decide)
  · rw [off40_eq hlo hhi]; exact row_inb (hr k) (by decide)
  · rw [off41_eq hlo hhi]; exact row_inb (hr k) (by decide)
  · rw [off42_eq hlo hhi]; exact row_inb (hr k) (by decide)
  · rw [off43_eq hlo hhi]; exact row_inb (hr k) (by decide)

end Loops

end Cert.Proof.Pool
-- ==== Proof.Values.lean ====
/-
  What the pooling kernel computes, as functions of its two inputs: the rows `X` (8 batches of 2048 rows of 128) and the
  64 lengths `Ln` (8 patches for each batch). Nothing here mentions the machine; the other modules show that the kernel's
  buffers come to hold these values.
-/
module

public import Idealize.ShloMosaic.Lib.ValueIdxCore
public import proofs.«01_k».proof.Proof.Words

@[expose] public section

noncomputable section

namespace Cert.Proof.Pool

open Cert.KernelIdeal Cert.KernelIdeal.Gen
open Idealize.ShloMosaic Idealize.ShloMosaic.ValueIdx Idealize.SL.Sem

/-! ## Vectors of sixteen -/

/-- Lane `k` of a vector of sixteen. -/
abbrev lane (k : Fin 16) : S16.Idx := ix1 k

theorem cast_row (k : Fin 16) : Shape.reshapeEquiv shapeCasts_S1x16_S16 (lane k) = ix2 (0 : Fin 1) k := by
  revert k; decide +kernel
theorem cast_lanes (k : Fin 16) : Shape.reshapeEquiv shapeCasts_S16_S1x16 (ix2 (0 : Fin 1) k) = lane k := by
  revert k; decide +kernel
theorem cast_cell (k : Fin 16) : Shape.reshapeEquiv shapeCasts_S1x1x16_S16 (lane k) = ix3 (0 : Fin 1) (0 : Fin 1) k := by
  revert k; decide +kernel

theorem ofLane_eq (k : Fin 16) : (Shape.ofLane k : S16.Idx) = lane k := by
  funext d; match d with | ⟨0, _⟩ => rfl

theorem lane_eq (l : S16.Idx) : l = lane (l 0) := eq_ix1 l

/-- A vector that keeps one lane of `u` and is zero elsewhere adds up to that lane. -/
theorem scan_pick (u : IVec S16 32) (n : Nat) (hn : n < 16) :
    extractAt ![15] (scan .sum (select (cmpi .eq (iota .scVector S16 32 [0] iota_S16_d0_w32_scVector)
      (broadcast S16 (BitVec.ofNat 32 n))) u (broadcast S16 0#32))) inpos_S16_p15 = u (lane ⟨n, hn⟩) := by
  have key : ∀ v : IVec S16 32, extractAt ![15] (scan .sum v) inpos_S16_p15 =
      v (lane 0) + v (lane 1) + v (lane 2) + v (lane 3) + v (lane 4) + v (lane 5) + v (lane 6) + v (lane 7) + v (lane 8)
        + v (lane 9) + v (lane 10) + v (lane 11) + v (lane 12) + v (lane 13) + v (lane 14) + v (lane 15) := by
    intro v
    have hf : ((List.finRange 16).filter fun k : Fin 16 => decide (0 < k.val ∧ k.val ≤ 15))
        = [1, 2, 3, 4, 5, 6, 7, 8, 9, 10, 11, 12, 13, 14, 15] := by decide
    have hx : extractAt ![15] (scan .sum v) inpos_S16_p15 = scan .sum v (lane 15) :=
      congrArg (scan .sum v) (funext fun d => match d with | ⟨0, _⟩ => rfl)
    have hv : (fun (r : BitVec 32) (k : Fin 16) => IntOp.addi r (v (Shape.ofLane k))) = fun r k => r + v (lane k) :=
      funext fun r => funext fun k => congrArg (fun l => r + v l) (ofLane_eq k)
    have hs : scan .sum v (lane 15) = ((List.finRange 16).filter fun k : Fin 16 => decide (0 < k.val ∧ k.val ≤ 15)).foldl
        (fun r k => IntOp.addi r (v (Shape.ofLane k))) (v (Shape.ofLane (0 : Fin 16))) := rfl
    refine hx.trans (hs.trans ((congrArg (List.foldl _ _) hf).trans ((congrArg (fun g => List.foldl g _ _) hv).trans ?_)))
    exact congrArg (fun z => List.foldl (fun (r : BitVec 32) (k : Fin 16) => r + v (lane k)) z
      [1, 2, 3, 4, 5, 6, 7, 8, 9, 10, 11, 12, 13, 14, 15]) (congrArg v (ofLane_eq 0))
  have sel : ∀ k : Fin 16, (select (cmpi .eq (iota .scVector S16 32 [0] iota_S16_d0_w32_scVector)
      (broadcast S16 (BitVec.ofNat 32 n))) u (broadcast S16 0#32)) (lane k) = if k.val = n then u (lane k) else 0#32 := by
    intro k
    have hk : (iota .scVector S16 32 [0] iota_S16_d0_w32_scVector) (lane k) = BitVec.ofNat 32 k.val := by
      revert k; decide +kernel
    have hk' := k.isLt
    show (if (IntOp.cmpi .eq _ _) = 1#1 then _ else _) = _
    rw [hk]
    by_cases h : k.val = n
    · rw [if_pos h, if_pos]; rw [h]; simp [IntOp.cmpi, broadcast]
    · rw [if_neg h, if_neg]; · rfl
      have : BitVec.ofNat 32 k.val ≠ BitVec.ofNat 32 n := fun e => h (by
        have := congrArg BitVec.toNat e
        simp only [BitVec.toNat_ofNat] at this; omega)
      have hb : (BitVec.ofNat 32 k.val == BitVec.ofNat 32 n) = false := by simpa using this
      show ¬BitVec.ofBool (BitVec.ofNat 32 k.val == BitVec.ofNat 32 n) = 1#1
      rw [hb]; decide
  rw [key]
  simp only [sel]
  interval_cases n <;> simp <;> rfl

/-! ## The bounds of a batch's patches -/

/-- The numbers `0 … 15`. -/
abbrev lanes : IVec S16 32 := iota .scVector S16 32 [0] iota_S16_d0_w32_scVector

/-- The sixteen lengths read for batch `b`. -/
def win (Ln : S64.Idx → BitVec 32) (b : Nat) : IVec S16 32 := fun l => Ln (ix1 (Fin.ofNat 64 (win0 b + (l 0).val)))

/-- Where each patch ends, as a row of the batch: the running sums of the lengths, less (for the last batch) the sum of
    the eight lengths of the batch before it. -/
def endV (Ln : S64.Idx → BitVec 32) (b : Nat) : IVec S16 32 :=
  subi (scan .sum (win Ln b)) (broadcast S16 (Scalar.select (Scalar.cmpi .sgt (BitVec.ofNat 32 (skip b)) 0#32)
    (scan .sum (win Ln b) (lane 7)) 0#32))

/-- The patches' ends and starts, not past the batch's 2048 rows. -/
def toV (Ln : S64.Idx → BitVec 32) (b : Nat) : IVec S16 32 := minsi (endV Ln b) (broadcast S16 2048#32)
def fromV (Ln : S64.Idx → BitVec 32) (b : Nat) : IVec S16 32 :=
  minsi (subi (endV Ln b) (win Ln b)) (broadcast S16 2048#32)

/-- How many rows each patch has. -/
def cntV (Ln : S64.Idx → BitVec 32) (b : Nat) : IVec S16 32 := subi (toV Ln b) (fromV Ln b)

/-- The patches' starts and ends within quarter `q`. -/
def loV (Ln : S64.Idx → BitVec 32) (b q : Nat) : IVec S16 32 :=
  minsi (broadcast S16 512#32) (maxsi (broadcast S16 0#32) (subi (fromV Ln b) (broadcast S16 (BitVec.ofNat 32 (512 * q)))))
def hiV (Ln : S64.Idx → BitVec 32) (b q : Nat) : IVec S16 32 :=
  minsi (broadcast S16 512#32) (maxsi (broadcast S16 0#32) (subi (toV Ln b) (broadcast S16 (BitVec.ofNat 32 (512 * q)))))

/-- The lane of patch `p` of batch `b`. -/
def patch (b p : Nat) : S16.Idx := lane (Fin.ofNat 16 (skip b + p))

/-- A word clipped to `0 … 512` is at most 512. -/
theorem clip_le (x : BitVec 32) : (IntOp.minsi 512#32 (IntOp.maxsi 0#32 x)).toNat ≤ 512 := by
  have h2 : (512#32 : BitVec 32).toInt = 512 := by decide
  have h0 : (0#32 : BitVec 32).toInt = 0 := by decide
  simp only [IntOp.minsi, IntOp.maxsi, BitVec.slt, decide_eq_true_eq]
  have hx := x.isLt
  have hx' := BitVec.toInt_eq_toNat_cond x
  split <;> split <;> simp_all <;> omega

theorem loV_le (Ln : S64.Idx → BitVec 32) (b q : Nat) (l : S16.Idx) : (loV Ln b q l).toNat ≤ 512 := clip_le _
theorem hiV_le (Ln : S64.Idx → BitVec 32) (b q : Nat) (l : S16.Idx) : (hiV Ln b q l).toNat ≤ 512 := clip_le _

/-! ## The sums -/

variable {F : FTy → Type} [FloatOps F]

/-- Column `c` of row `r` of batch `b`. -/
def rowAt (X : S8x2048x128.Idx → F .f32) (b r c : Nat) : F .f32 :=
  X (ix3 (Fin.ofNat 8 b) (Fin.ofNat 2048 r) (Fin.ofNat 128 c))

/-- The values `f a, f (a+1), …`, `n` of them, added one after the other to `z`. -/
def sumRows (f : Nat → F .f32) (z : F .f32) (a : Nat) : Nat → F .f32
  | 0 => z
  | n + 1 => FloatOps.addf (sumRows f z a n) (f (a + n))

/-- The number zero, as the kernel writes it. -/
def zeroF : F .f32 := Scalar.ofBits .f32 0x00000000#32

/-- The sum of patch `p`'s rows in the first half of quarter `q` of batch `b`, at column `c`. -/
def half (X : S8x2048x128.Idx → F .f32) (Ln : S64.Idx → BitVec 32) (b q p c : Nat) : F .f32 :=
  sumRows (fun r => rowAt X b (512 * q + r) c) zeroF (min (loV Ln b q (patch b p)).toNat 256)
    (min (hiV Ln b q (patch b p)).toNat 256 - min (loV Ln b q (patch b p)).toNat 256)

/-- The sum of patch `p`'s rows in quarter `q` of batch `b`, at column `c`. -/
def part (X : S8x2048x128.Idx → F .f32) (Ln : S64.Idx → BitVec 32) (b q p c : Nat) : F .f32 :=
  sumRows (fun r => rowAt X b (512 * q + r) c) (half X Ln b q p c) (max (loV Ln b q (patch b p)).toNat 256)
    (max (hiV Ln b q (patch b p)).toNat 256 - max (loV Ln b q (patch b p)).toNat 256)

/-- One element of the result from a patch's row count and its four quarters' sums: their sum over the count, and -1
    for a patch without rows. -/
def mean (n : BitVec 32) (f0 f1 f2 f3 : F .f32) : F .f32 :=
  Scalar.select (Scalar.cmpi .eq n 0#32) (Scalar.ofBits .f32 0xBF800000#32)
    (FloatOps.divf (FloatOps.addf (FloatOps.addf (FloatOps.addf f0 f1) f2) f3) (Scalar.sitofp .f32 (Scalar.maxsi n 1#32)))

/-- Column `c` of patch `p` of batch `b` of the result. -/
def meanAt (X : S8x2048x128.Idx → F .f32) (Ln : S64.Idx → BitVec 32) (b p c : Nat) : F .f32 :=
  mean (cntV Ln b (patch b p)) (part X Ln b 0 p c) (part X Ln b 1 p c) (part X Ln b 2 p c) (part X Ln b 3 p c)

/-- The whole result. -/
def means (X : S8x2048x128.Idx → F .f32) (Ln : S64.Idx → BitVec 32) : S8x8x128.Idx → F .f32 :=
  fun j => meanAt X Ln (j 0).val (j 1).val (j 2).val

/-! ## The kernel's vectors are these -/

theorem pay31_eq : k0_pay31 = broadcast S16 0#32 := rfl
theorem pay33_eq (v : Vec F S16 .i32) : k0_pay33 v = scan .sum v := rfl

/-- A lane's number, that of patch `p`. -/
theorem pick_patch (u : IVec S16 32) {b p : Nat} (hb : b < 8) (hp : p < 8) :
    extractAt ![15] (scan .sum (select (cmpi .eq lanes (broadcast S16 (BitVec.ofNat 32 (skip b + p)))) u
      (broadcast S16 0#32))) inpos_S16_p15 = u (patch b p) := by
  have := skip_le hb
  rw [scan_pick u (skip b + p) (by omega), patch]
  congr 2
  exact Fin.ext (by simp [Fin.ofNat]; omega)

/-- The patches' ends as the kernel computes them. -/
theorem pay34_eq (Ln : S64.Idx → BitVec 32) (b : Nat) :
    k0_pay34 lanes k0_pay31 (scan .sum (win Ln b)) (Scalar.cmpi .sgt (BitVec.ofNat 32 (skip b)) 0#32) = endV Ln b := by
  have h := scan_pick (scan .sum (win Ln b)) 7 (by decide)
  unfold k0_pay34 endV
  rw [pay31_eq]
  simp only
  rw [h]
  rfl

theorem pay37_eq (Ln : S64.Idx → BitVec 32) (b : Nat) :
    k0_pay37 (F := F) lanes k0_pay31 (win Ln b) (scan .sum (win Ln b)) (Scalar.cmpi .sgt (BitVec.ofNat 32 (skip b)) 0#32)
      = cntV Ln b := by
  unfold k0_pay37 k0_pay35 k0_pay36 cntV toV fromV
  rw [pay34_eq]

theorem pay38_eq (Ln : S64.Idx → BitVec 32) (b q : Nat) :
    k0_pay38 (F := F) (BitVec.ofNat 32 (512 * q)) lanes k0_pay31 (win Ln b) (scan .sum (win Ln b))
      (Scalar.cmpi .sgt (BitVec.ofNat 32 (skip b)) 0#32) = loV Ln b q := by
  unfold k0_pay38 k0_pay36 loV fromV
  rw [pay34_eq]

theorem pay39_eq (Ln : S64.Idx → BitVec 32) (b q : Nat) :
    k0_pay39 (BitVec.ofNat 32 (512 * q)) lanes k0_pay31 (scan .sum (win Ln b))
      (Scalar.cmpi .sgt (BitVec.ofNat 32 (skip b)) 0#32) = hiV Ln b q := by
  unfold k0_pay39 k0_pay35 hiV toV
  rw [pay34_eq]

/-- The lane the loops over the patches ask for at trip `k`. -/
theorem patch_word (b k : Nat) : Scalar.addi (BitVec.ofNat 32 (skip b)) (Scalar.addi 0#32 (Scalar.muli (Scf.iv 0#32 1#32 k) 1#32))
    = BitVec.ofNat 32 (skip b + k) := by
  rw [iv_zero_one]
  simp only [Scalar.addi, Scalar.muli, IntOp.addi, IntOp.muli, BitVec.mul_one, BitVec.zero_add, BitVec.ofNat_add]

/-- The bounds of patch `k` as the first loop over the patches reads them. -/
theorem lo1_eq {b : Nat} (hb : b < 8) (v : IVec S16 32) (k : Fin k0_t1_loop.trips) :
    extractAt ![15] (k0_pay2 lanes k0_pay31 (BitVec.ofNat 32 (skip b)) v 0#32 1#32 k) inpos_S16_p15 = v (patch b k.val) := by
  rw [← pick_patch v hb (show k.val < 8 from k.isLt), ← patch_word]
  rfl

theorem hi1_eq {b : Nat} (hb : b < 8) (v : IVec S16 32) (k : Fin k0_t1_loop.trips) :
    extractAt ![15] (k0_pay3 lanes k0_pay31 (BitVec.ofNat 32 (skip b)) v 0#32 1#32 k) inpos_S16_p15 = v (patch b k.val) := by
  rw [← pick_patch v hb (show k.val < 8 from k.isLt), ← patch_word]
  rfl

/-- The same in the second loop over the patches. -/
theorem lo2_eq {b : Nat} (hb : b < 8) (v : IVec S16 32) (k : Fin k0_t4_loop.trips) :
    extractAt ![15] (k0_pay21 lanes k0_pay31 (BitVec.ofNat 32 (skip b)) v 0#32 1#32 k) inpos_S16_p15 = v (patch b k.val) := by
  rw [← pick_patch v hb (show k.val < 8 from k.isLt), ← patch_word]
  rfl

theorem hi2_eq {b : Nat} (hb : b < 8) (v : IVec S16 32) (k : Fin k0_t4_loop.trips) :
    extractAt ![15] (k0_pay22 lanes k0_pay31 (BitVec.ofNat 32 (skip b)) v 0#32 1#32 k) inpos_S16_p15 = v (patch b k.val) := by
  rw [← pick_patch v hb (show k.val < 8 from k.isLt), ← patch_word]
  rfl

end Cert.Proof.Pool
-- ==== Proof.Setup.lean ====
/-
  The pooling kernel as the launch theorem sees it: its configuration, the ghost state, the regions of the buffers that
  each vector subcore (tile) owns, the barrier's schedule and what the launch's handshakes carry.

  Tile `i` of SparseCore `c` works on batch `4c + i/4` and on its quarter `i % 4`. Before the barrier it writes row `i`
  of its SparseCore's shared scratch: the sums over its quarter, for all eight patches. After the barrier it reads two
  patches of the four rows of its batch and writes these two patches' means.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Values

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
/-- The SparseCore of core number `c` of the call. -/
abbrev coreOf (c : Fin ((K (F := F)).nCore 0)) : Fin τ.nSC := (K (F := F)).core 0 c
/-- The vector subcore of task number `i` of the call. -/
abbrev subOf (i : Fin ((K (F := F)).nSub 0)) : Fin τ.nSub := (K (F := F)).sub 0 i
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and live as long as the program. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes' rounds, the barrier's rounds, the copies' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier's rounds inside the ghost state. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The buffers and their regions -/

variable (m : (ℓ : Loc nD τ sig) → Buf (Elt F) ℓ) (ρ : Dev nD → PrngReg)

/-- The rows, the lengths (8 by 8), the lengths in one line, the result. -/
abbrev xLoc (d : Dev nD) : Loc nD τ sig := (SparseCore.T d).loc main_arg0
abbrev aLoc (d : Dev nD) : Loc nD τ sig := (SparseCore.T d).loc main_arg1
abbrev lLoc (d : Dev nD) : Loc nD τ sig := (SparseCore.T d).loc main_v0
abbrev oLoc (d : Dev nD) : Loc nD τ sig := (SparseCore.T d).loc main_v1

/-- SparseCore `c`'s shared scratch. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl

/-- The rows the program starts with. -/
def rows (d : Dev nD) : S8x2048x128.Idx → F .f32 := m (xLoc d)
/-- The lengths the program starts with, in one line. -/
def lens (d : Dev nD) : S64.Idx → BitVec 32 := shapeCast S64 (show S8x8.Idx → BitVec 32 from m (aLoc d)) shapeCasts_S8x8_S64

/-- A region splits by any numbering of its elements. -/
theorem pointsTo_by {ℓ : Loc nD τ sig} {q : PosShare TreeShare} {n : ℕ} (I : Finset (Idx ℓ)) (f : Buf (Elt F) ℓ) (key : Idx ℓ → Fin n) :
    (ℓ ↦[I]{q} f : sProp 𝕄) = bigSep Finset.univ fun k : Fin n => ℓ ↦[I.filter fun j => key j = k]{q} f := by
  classical
  rw [← pointsTo_biUnion Finset.univ (ℓ := ℓ) (fun k : Fin n => I.filter fun j => key j = k)
    (fun a _ b _ hab => Finset.disjoint_left.mpr fun j hj hj' =>
      hab ((Finset.mem_filter.mp hj).2.symm.trans (Finset.mem_filter.mp hj').2))]
  congr 2
  ext j
  simp only [Finset.mem_biUnion, Finset.mem_univ, true_and, Finset.mem_filter]
  exact ⟨fun h => ⟨key j, h, rfl⟩, fun ⟨_, h, _⟩ => h⟩

/-- The result's batches that SparseCore `c` writes. -/
def outCore (c : ℕ) : Finset S8x8x128.Idx := Finset.univ.filter fun j => (j 0).val / 4 = c
/-- The result's two patches that tile `i` of SparseCore `c` writes. -/
def outTile (c i : ℕ) : Finset S8x8x128.Idx := Finset.univ.filter fun j => (j 0).val = 4 * c + i / 4 ∧ (j 1).val / 2 = i % 4
/-- One patch of the result. -/
def outRow (b p : ℕ) : Finset S8x8x128.Idx := Finset.univ.filter fun j => (j 0).val = b ∧ (j 1).val = p
/-- Row `i` of the shared scratch, which tile `i` writes. -/
def shRow (i : ℕ) : Finset S16x8x128.Idx := Finset.univ.filter fun j => (j 0).val = i
/-- What tile `i` reads of the shared scratch: two patches of four rows. -/
def shRead (i : ℕ) : Finset S16x8x128.Idx := Finset.univ.filter fun j => (j 0).val / 4 = i / 4 ∧ (j 1).val / 2 = i % 4
/-- What tile `t` reads of row `s`. -/
def shPiece (s t : ℕ) : Finset S16x8x128.Idx :=
  Finset.univ.filter fun j => (j 0).val = s ∧ (j 0).val / 4 = t / 4 ∧ (j 1).val / 2 = t % 4

/-- SparseCore `c`'s share of a buffer that everyone reads. -/
def coreShare (c : ℕ) : PosShare TreeShare := ShareLeaves.leaf 1 fullShare (Fin.ofNat 2 c)
/-- Tile `i` of SparseCore `c`'s share of it. -/
def tileShare (c i : ℕ) : PosShare TreeShare := ShareLeaves.leaf 4 (coreShare c) (Fin.ofNat 16 i)

theorem fullShare_cores {ℓ : Loc nD τ sig} (f : Buf (Elt F) ℓ) :
    (ℓ ↦{fullShare} f : sProp 𝕄) = bigSep Finset.univ fun c : Fin 2 => ℓ ↦{coreShare c.val} f := by
  rw [ShareLeaves.pointsTo_leaves Finset.univ f 1 fullShare]
  refine bigSep_congr fun c _ => ?_
  rw [coreShare, show Fin.ofNat 2 c.val = c from Fin.ext (Nat.mod_eq_of_lt c.isLt)]

theorem coreShare_tiles {ℓ : Loc nD τ sig} (c : ℕ) (f : Buf (Elt F) ℓ) :
    (ℓ ↦{coreShare c} f : sProp 𝕄) = bigSep Finset.univ fun i : Fin 16 => ℓ ↦{tileShare c i.val} f := by
  rw [ShareLeaves.pointsTo_leaves Finset.univ f 4 (coreShare c)]
  refine bigSep_congr fun i _ => ?_
  rw [tileShare, show Fin.ofNat 16 i.val = i from Fin.ext (Nat.mod_eq_of_lt i.isLt)]

theorem out_cores {d : Dev nD} (f : Buf (Elt F) (oLoc d)) :
    (oLoc d ↦{fullShare} f : sProp 𝕄) = bigSep Finset.univ fun c : Fin 2 => oLoc d ↦[outCore c.val]{fullShare} f := by
  rw [pointsTo_by (ℓ := oLoc d) (n := 2) Finset.univ f fun j : S8x8x128.Idx => ⟨(j 0).val / 4, by have := (j 0).isLt; change _ < 8 at this; omega⟩]
  refine bigSep_congr fun c _ => ?_
  congr 1
  exact Finset.filter_congr fun j _ => by rw [Fin.ext_iff]

theorem outCore_tiles {d : Dev nD} (c : ℕ) (f : Buf (Elt F) (oLoc d)) :
    (oLoc d ↦[outCore c]{fullShare} f : sProp 𝕄) = bigSep Finset.univ fun i : Fin 16 => oLoc d ↦[outTile c i.val]{fullShare} f := by
  rw [pointsTo_by (ℓ := oLoc d) (n := 16) (outCore c) f fun j : S8x8x128.Idx =>
    ⟨4 * ((j 0).val % 4) + (j 1).val / 2, by have := (j 1).isLt; change _ < 8 at this; omega⟩]
  refine bigSep_congr fun i _ => ?_
  congr 1
  unfold outCore outTile
  rw [Finset.filter_filter]
  refine Finset.filter_congr fun j _ => ?_
  have h0 := (j 0).isLt; have h1 := (j 1).isLt; have hi := i.isLt
  change _ < 8 at h0; change _ < 8 at h1
  simp only [Fin.ext_iff]
  omega

/-- The row of an element of the shared scratch. -/
def writer (j : S16x8x128.Idx) : Fin 16 := ⟨(j 0).val, (j 0).isLt⟩

theorem writer_eq (j : S16x8x128.Idx) (s : Fin 16) : writer j = s ↔ (j 0).val = s.val := Fin.ext_iff

theorem shared_rows {d : Dev nD} {c : Fin τ.nSC} (f : Buf (Elt F) (shLoc d c)) :
    (shLoc d c ↦{fullShare} f : sProp 𝕄) = bigSep Finset.univ fun i : Fin 16 => shLoc d c ↦[shRow i.val]{fullShare} f := by
  rw [pointsTo_by (ℓ := shLoc d c) (n := 16) Finset.univ f writer]
  refine bigSep_congr fun c _ => ?_
  congr 1
  exact Finset.filter_congr fun j _ => writer_eq j _

/-- The tile that reads an element of the shared scratch. -/
def reader (j : S16x8x128.Idx) : Fin 16 :=
  ⟨4 * ((j 0).val / 4) + (j 1).val / 2, by have := (j 0).isLt; have h := (j 1).isLt; change _ < 16 at this; change _ < 8 at h; omega⟩

theorem reader_eq (j : S16x8x128.Idx) (t : Fin 16) : reader j = t ↔ (j 0).val / 4 = t.val / 4 ∧ (j 1).val / 2 = t.val % 4 := by
  have h1 := (j 1).isLt; change _ < 8 at h1
  rw [Fin.ext_iff]
  show 4 * ((j 0).val / 4) + (j 1).val / 2 = t.val ↔ _
  omega

theorem shared_reads {d : Dev nD} {c : Fin τ.nSC} (f : Buf (Elt F) (shLoc d c)) :
    (shLoc d c ↦{fullShare} f : sProp 𝕄) = bigSep Finset.univ fun t : Fin 16 => shLoc d c ↦[shRead t.val]{fullShare} f := by
  rw [pointsTo_by (ℓ := shLoc d c) (n := 16) Finset.univ f reader]
  refine bigSep_congr fun c _ => ?_
  congr 1
  exact Finset.filter_congr fun j _ => reader_eq j _

/-- A tile's row is what the tiles read of it. -/
theorem shRow_pieces {d : Dev nD} {c : Fin τ.nSC} (s : ℕ) (f : Buf (Elt F) (shLoc d c)) :
    (shLoc d c ↦[shRow s]{fullShare} f : sProp 𝕄) = bigSep Finset.univ fun t : Fin 16 => shLoc d c ↦[shPiece s t.val]{fullShare} f := by
  rw [pointsTo_by (ℓ := shLoc d c) (n := 16) (shRow s) f reader]
  refine bigSep_congr fun t _ => ?_
  congr 1
  unfold shRow shPiece
  rw [Finset.filter_filter]
  exact Finset.filter_congr fun j _ => by rw [reader_eq]

/-- What a tile reads, row by row. -/
theorem shRead_pieces {d : Dev nD} {c : Fin τ.nSC} (t : ℕ) (f : Buf (Elt F) (shLoc d c)) :
    (shLoc d c ↦[shRead t]{fullShare} f : sProp 𝕄) = bigSep Finset.univ fun s : Fin 16 => shLoc d c ↦[shPiece s.val t]{fullShare} f := by
  rw [pointsTo_by (ℓ := shLoc d c) (n := 16) (shRead t) f writer]
  refine bigSep_congr fun s _ => ?_
  congr 1
  unfold shRead shPiece
  rw [Finset.filter_filter]
  exact Finset.filter_congr fun j _ => by rw [writer_eq]; exact and_comm

/-- A tile's two patches of the result, one by one. -/
theorem outTile_two {d : Dev nD} (c i : ℕ) (f : Buf (Elt F) (oLoc d)) :
    (oLoc d ↦[outTile c i]{fullShare} f : sProp 𝕄)
      = iprop((oLoc d ↦[outRow (4 * c + i / 4) (2 * (i % 4))]{fullShare} f) ∗ (oLoc d ↦[outRow (4 * c + i / 4) (2 * (i % 4) + 1)]{fullShare} f)) := by
  rw [pointsTo_by (ℓ := oLoc d) (n := 2) (outTile c i) f fun j : S8x8x128.Idx => ⟨(j 1).val % 2, Nat.mod_lt _ (by decide)⟩,
    show (Finset.univ : Finset (Fin 2)) = {0, 1} from rfl, SparseCore.bigSep_insert' (by decide), bigSep_singleton]
  congr 2 <;>
  · unfold outTile outRow
    rw [Finset.filter_filter]
    refine Finset.filter_congr fun j _ => ?_
    simp only [Fin.ext_iff, Fin.val_zero, Fin.val_one]
    omega

variable [FloatOps F]

/-- What the shared scratch of SparseCore `c` comes to hold: in row `s`, the sums over tile `s`'s quarter. -/
def shVal (d : Dev nD) (c : Fin τ.nSC) : Buf (Elt F) (shLoc d c) :=
  show S16x8x128.Idx → F .f32 from fun j => part (rows m d) (lens m d) (4 * c.val + (j 0).val / 4) ((j 0).val % 4) (j 1).val (j 2).val
/-- The result. -/
def outVal (d : Dev nD) : Buf (Elt F) (oLoc d) := show S8x8x128.Idx → F .f32 from means (rows m d) (lens m d)
/-- The lengths' line, as a buffer. -/
def lenVal (d : Dev nD) : Buf (Elt F) (lLoc d) := show S64.Idx → BitVec 32 from lens m d

/-! ## The barrier -/

/-- Tile `(c, j)`'s barrier semaphore. -/
abbrev bcell (d : Dev nD) (c : Fin τ.nSC) (j : Fin τ.nSub) : GSem nD τ sig := (V d c j, .reg sc_bar0)

theorem sc_bar0_ne_go : (sc_bar0 : Sem sig) ≠ sc_go := by decide

/-- Whether a semaphore is some tile's barrier semaphore. -/
def isBar (g : GSem nD τ sig) : Bool :=
  match g with
  | ((_, .scVector _ _), sm) => decide (sm = .reg sc_bar0)
  | _ => false

/-- What tile `s`'s arrival at tile `t`'s semaphore hands over: what `t` reads of `s`'s row, with the sums in it. -/
def bPay (g : GSem nD τ sig) (s : ℕ) : sProp 𝕄 :=
  match g with
  | ((d, .scVector c t), _) => shLoc d c ↦[shPiece s t.val]{fullShare} shVal m d c
  | _ => iprop(emp)

/-- The barrier semaphores' schedule: one round, with one arrival of each of the SparseCore's tiles. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd m).payload g r n) := by
  show BI.Storable upEmb (bPay m g n)
  unfold bPay
  rcases g with ⟨⟨d, _ | c | ⟨c, i⟩⟩, sm⟩ <;> dsimp only <;> infer_instance

theorem bRd_duties₀ (d : Dev nD) (c : Fin τ.nSC) (j : Fin τ.nSub) : (bRd m).duties (bcell d c j) 0 = (Finset.univ : Finset (Fin τ.nSub)).image Fin.val := by
  simp [bRd, isBar]
theorem bRd_duties_succ (g : GSem nD τ sig) (r : ℕ) (hr : 1 ≤ r) : (bRd m).duties g r = ∅ :=
  if_neg fun h => absurd h.2 (Nat.ne_of_gt hr)
theorem bRd_mem₀ (d : Dev nD) (c : Fin τ.nSC) (j i : Fin τ.nSub) : i.val ∈ (bRd m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes for the barrier: one arrival at every semaphore of its SparseCore's tiles. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) :
    ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What tile `(c, i)` uses at the barrier: the invariants of its SparseCore's barrier semaphores, its right to arrive at
    each, that each is in its first round, its own place in that round and the credit for its own sixteen arrivals. -/
def bkit (d : Dev nD) (c : Fin τ.nSC) (i : Fin τ.nSub) : sProp 𝕄 :=
  iprop((∃ κ : GSem nD τ sig → ℕ, bigSep Finset.univ fun j : Fin (grid0.bound 1) =>
      cellInv EB (bRd m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the launch's handshakes carry -/

/-- What SparseCore `c` gets and gives back: its shares of the inputs and its batches of the result. -/
abbrev corePts (d : Dev nD) (c : ℕ) (f : Buf (Elt F) (oLoc d)) : sProp 𝕄 :=
  iprop((xLoc d ↦{coreShare c} m (xLoc d)) ∗ (lLoc d ↦{coreShare c} lenVal m d) ∗ (oLoc d ↦[outCore c]{fullShare} f))
/-- What tile `(c, i)` gets and gives back of these. -/
abbrev tilePts (d : Dev nD) (c i : ℕ) (f : Buf (Elt F) (oLoc d)) : sProp 𝕄 :=
  iprop((xLoc d ↦{tileShare c i} m (xLoc d)) ∗ (lLoc d ↦{tileShare c i} lenVal m d) ∗ (oLoc d ↦[outTile c i]{fullShare} f))

/-- The barrier semaphores of SparseCore `c`'s tasks, at zero. -/
abbrev bars (d : Dev nD) (c : Fin τ.nSC) : sProp 𝕄 :=
  bigSep Finset.univ fun i : Fin ((K (F := F)).nSub 0) => semVal (bcell d c (subOf i)) 0

set_option backward.proofsInPublic true in
/-- The handshakes: a SparseCore and a task get their parts of the buffers, the task with its row of the shared scratch;
    they bring them back with the result in place, the task with what it read of the shared scratch. Each task has its
    barrier kit and owes its arrivals. -/
def P : (K (F := F)).Pay (nD := nD) (Val := Elt F) (Name := ℕ) (U := UU) where
  st := fun q d c => match q with | 0 => corePts m d (coreOf c).val (m (oLoc d))
  dn := fun q d c => match q with | 0 => iprop(corePts m d (coreOf c).val (outVal m d) ∗ bars d (coreOf c))
  go := fun q d c i => match q with
    | 0 => iprop(tilePts m d (coreOf c).val (subOf i).val (m (oLoc d)) ∗ ∃ f, shLoc d (coreOf c) ↦[shRow (subOf i).val]{fullShare} f)
  td := fun q d c i => match q with
    | 0 => iprop((tilePts m d (coreOf c).val (subOf i).val (outVal m d) ∗ (shLoc d (coreOf c) ↦[shRead (subOf i).val]{fullShare} shVal m d (coreOf c)))
        ∗ semVal (bcell d (coreOf c) (subOf i)) 0)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub0) (show (sc_bar0 : Sem sig) ≠ (K (F := F)).go from sc_bar0_ne_go)]
      exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P m).IsStorable where
  st q d _ := match q with
    | 0 => (inferInstance : BI.Storable (upEmb : UEmb _ 𝕄) (corePts m d _ _))
  dn q d _ := match q with
    | 0 => (inferInstance : BI.Storable (upEmb : UEmb _ 𝕄) iprop(corePts m d _ _ ∗ bars d _))
  go q d c i := match q with
    | 0 => (inferInstance : BI.Storable (upEmb : UEmb _ 𝕄) iprop(tilePts m d _ _ _ ∗ ∃ f, shLoc d (coreOf c) ↦[shRow (subOf i).val]{fullShare} f))
  td q d c i := match q with
    | 0 => (inferInstance : BI.Storable (upEmb : UEmb _ 𝕄)
      iprop((tilePts m d _ _ _ ∗ (shLoc d (coreOf c) ↦[shRead (subOf i).val]{fullShare} shVal m d (coreOf c))) ∗ semVal _ 0))

end Cert.Proof.Pool
-- ==== Proof.Sums.lean ====
/-
  The loops over a quarter's rows: for each patch, the rows of the quarter that belong to it are added up, first those in
  the first half of the quarter, then those in the second half.
-/
module

public import proofs.«01_k».proof.Proof.Setup

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The SparseCore and the vector subcore of a place in the grid, and its thread. -/
abbrev cV (i : grid0.Coords) : Fin τ.nSC := (i 0).castLE hcore0
abbrev jV (i : grid0.Coords) : Fin τ.nSub := (i 1).castLE hsub0

/-! ## The values -/

/-- The rows' buffer filled with quarter `q` of batch `b`. -/
def bufVal (X : S8x2048x128.Idx → F .f32) (b q : Nat) : S512x128.Idx → F .f32 :=
  fun j => rowAt X b (512 * q + (j 0).val) (j 1).val

/-- The first half of the rows' buffer. -/
def lowRows : Finset S512x128.Idx := Finset.univ.filter fun j => (j 0).val < 256

/-- Column block `j` (sixteen columns) of a sum: `n` rows from row `a` of the quarter on, added to `z`. -/
def sums (X : S8x2048x128.Idx → F .f32) (b q : Nat) (z : Nat → F .f32) (a n j : Nat) : FVec F S16 .f32 :=
  fun l => sumRows (fun r => rowAt X b (512 * q + r) (16 * j + (l 0).val)) (z (16 * j + (l 0).val)) a n

/-- Eight column blocks. -/
abbrev eight (f : Nat → FVec F S16 .f32) :
    FVec F S16 .f32 × FVec F S16 .f32 × FVec F S16 .f32 × FVec F S16 .f32 × FVec F S16 .f32 × FVec F S16 .f32 × FVec F S16 .f32 × FVec F S16 .f32 :=
  (f 0, f 1, f 2, f 3, f 4, f 5, f 6, f 7)

theorem eight_ext {f : Nat → FVec F S16 .f32} {a0 a1 a2 a3 a4 a5 a6 a7 : FVec F S16 .f32} (h0 : a0 = f 0) (h1 : a1 = f 1) (h2 : a2 = f 2)
    (h3 : a3 = f 3) (h4 : a4 = f 4) (h5 : a5 = f 5) (h6 : a6 = f 6) (h7 : a7 = f 7) : (a0, a1, a2, a3, a4, a5, a6, a7) = eight f := by
  rw [h0, h1, h2, h3, h4, h5, h6, h7]

/-- A row of sixteen read as a vector. -/
theorem castRow_apply (v : S1x16.Idx → F .f32) (l : S16.Idx) : shapeCast S16 v shapeCasts_S1x16_S16 l = v (ix2 (0 : Fin 1) (l 0)) := by
  rw [lane_eq l]; exact congrArg v (cast_row (l 0))

/-- A sixteen-column load of one row of the rows' buffer, added to a sum, makes the sum one row longer. -/
theorem sums_load (X : S8x2048x128.Idx → F .f32) (b q : Nat) (z : Nat → F .f32) {a n j : Nat}
    {off : Fin 2 → Nat} (hoff : off = ![a + n, 16 * j]) (inb : ∀ x, off x + S1x16.size x ≤ S512x128.size x) :
    addf (sums X b q z a n j) (shapeCast S16 ((Memref.whole cc0_scratch1 : Memref sig .scVector .vmem S512x128 .f32).view.readAt (Elt F)
      (Rect.unit (s := S512x128) off S1x16.size inb).toLoadRect (bufVal X b q)) shapeCasts_S1x16_S16)
      = sums X b q z a (n + 1) j := by
  subst hoff
  funext l
  refine congrArg (FloatOps.addf (sums X b q z a n j l)) ((castRow_apply _ l).trans ?_)
  show rowAt X b (512 * q + ((a + n) + 1 * 0)) (16 * j + 1 * (l 0).val) = rowAt X b (512 * q + (a + n)) (16 * j + (l 0).val)
  rw [Nat.one_mul, Nat.one_mul, Nat.add_zero]

/-- The elements such a load reads lie in the first half, if the row does. -/
theorem load_low {r c : Nat} (hr : r < 256) {off : Fin 2 → Nat} (hoff : off = ![r, c]) (inb : ∀ x, off x + S1x16.size x ≤ S512x128.size x) :
    (Memref.whole cc0_scratch1 : Memref sig .scVector .vmem S512x128 .f32).view.setOn
      (Rect.unit (s := S512x128) off S1x16.size inb).toLoadRect.set ⊆ lowRows := by
  subst hoff
  intro j hj
  obtain ⟨x, hx, rfl⟩ := Finset.mem_map.mp hj
  have h0 := Rect.mem_set_unit.mp hx 0
  refine Finset.mem_filter.mpr ⟨Finset.mem_univ _, ?_⟩
  show (x 0).val < 256
  have := h0.2
  change (x 0).val < r + 1 at this
  omega

/-! ## Writing a row, sixteen columns at a time -/

/-- A vector as a row of sixteen. -/
theorem castLanes_apply (v : FVec F S16 .f32) (x : S1x16.Idx) : shapeCast S1x16 v shapeCasts_S16_S1x16 x = v (lane (x 1)) := by
  have hx : x = ix2 (0 : Fin 1) (x 1) := (eq_ix2 x).trans (congrArg (fun a => ix2 a (x 1)) (Subsingleton.elim (α := Fin 1) _ _))
  rw [hx]; exact congrArg v (cast_lanes (x 1))

/-- The shape of `n` rows of 128. -/
abbrev rowsOf (n : Nat) : Shape := ⟨2, ![n, 128]⟩

theorem rowPiece_inb {n t j : Nat} (ht : t < n) (hj : j < 8) (a : Fin 2) : (![t, 16 * j] : Fin 2 → Nat) a + S1x16.size a ≤ (rowsOf n).size a := by
  match a with
  | ⟨0, _⟩ => show t + 1 ≤ n; omega
  | ⟨1, _⟩ => show 16 * j + 16 ≤ 128; omega

/-- The write of column block `j` of row `t`. -/
abbrev rowPiece {n t : Nat} (ht : t < n) (j : Nat) (hj : j < 8) (w : FVec F S16 .f32) : View.Piece (Elt F) (rowsOf n) .f32 :=
  ⟨Rect.unit ![t, 16 * j] S1x16.size (rowPiece_inb ht hj), shapeCast S1x16 w shapeCasts_S16_S1x16⟩

theorem rowPiece_eq {n t j : Nat} (ht : t < n) (hj : j < 8) {off : Fin 2 → Nat} (hoff : off = ![t, 16 * j])
    (inb : ∀ a, off a + S1x16.size a ≤ (rowsOf n).size a) (w : FVec F S16 .f32) :
    (⟨Rect.unit off S1x16.size inb, shapeCast S1x16 w shapeCasts_S16_S1x16⟩ : View.Piece (Elt F) (rowsOf n) .f32) = rowPiece ht j hj w := by
  subst hoff; rfl

/-- The eight writes of a row, the last one first. -/
def rowPieces {n t : Nat} (ht : t < n) (w : Nat → FVec F S16 .f32) : List (View.Piece (Elt F) (rowsOf n) .f32) :=
  [rowPiece ht 7 (by decide) (w 7), rowPiece ht 6 (by decide) (w 6), rowPiece ht 5 (by decide) (w 5), rowPiece ht 4 (by decide) (w 4),
    rowPiece ht 3 (by decide) (w 3), rowPiece ht 2 (by decide) (w 2), rowPiece ht 1 (by decide) (w 1), rowPiece ht 0 (by decide) (w 0)]

theorem mem_rowPieces {n t : Nat} (ht : t < n) (w : Nat → FVec F S16 .f32) (p : View.Piece (Elt F) (rowsOf n) .f32) :
    p ∈ rowPieces ht w ↔ ∃ j, ∃ hj : j < 8, p = rowPiece ht j hj (w j) := by
  constructor
  · intro h
    simp only [rowPieces, List.mem_cons, List.not_mem_nil, _root_.or_false] at h
    rcases h with rfl | rfl | rfl | rfl | rfl | rfl | rfl | rfl
    exacts [⟨7, by decide, rfl⟩, ⟨6, by decide, rfl⟩, ⟨5, by decide, rfl⟩, ⟨4, by decide, rfl⟩, ⟨3, by decide, rfl⟩, ⟨2, by decide, rfl⟩,
      ⟨1, by decide, rfl⟩, ⟨0, by decide, rfl⟩]
  · rintro ⟨j, hj, rfl⟩
    simp only [rowPieces]
    interval_cases j <;> simp

/-- After the eight writes the row holds what was written, and the other rows what they held. -/
theorem read_rowPieces {κ : Kind} {sp : Space} {n t : Nat} (v : View sig κ sp (rowsOf n) .f32) (f : v.ty.Contents (Elt F)) (ht : t < n)
    (w : Nat → FVec F S16 .f32) (new : Nat → F .f32) (hw : ∀ j, j < 8 → ∀ k : Fin 16, w j (lane k) = new (16 * j + k.val)) (y : (rowsOf n).Idx) :
    v.read (Elt F) (v.writes (Elt F) f (rowPieces ht w)) y = if (y 0).val = t then new (y 1).val else v.read (Elt F) f y := by
  have hy1 : (y 1).val < 128 := (y 1).isLt
  split
  · next h =>
    refine View.read_writes_apply_of_pieces v f (fun y => new (y 1).val) _ (fun p hp x => ?_) y ?_
    · obtain ⟨j, hj, rfl⟩ := (mem_rowPieces ht w p).mp hp
      refine (castLanes_apply (w j) x).trans ((hw j hj (x 1)).trans ?_)
      show new (16 * j + (x 1).val) = new (16 * j + 1 * (x 1).val)
      rw [Nat.one_mul]
    · refine ⟨rowPiece ht ((y 1).val / 16) (by omega) (w ((y 1).val / 16)), (mem_rowPieces ht w _).mpr ⟨_, by omega, rfl⟩, ?_⟩
      refine (Rect.mem_set_unit (inb := rowPiece_inb ht (show (y 1).val / 16 < 8 by omega))).mpr fun a => ?_
      match a with
      | ⟨0, _⟩ => exact ⟨h.ge, show (y 0).val < t + 1 by omega⟩
      | ⟨1, _⟩ => exact ⟨show 16 * ((y 1).val / 16) ≤ (y 1).val by omega, show (y 1).val < 16 * ((y 1).val / 16) + 16 by omega⟩
  · next h =>
    refine View.read_writes_apply_of_forall_not_mem v f y _ fun p hp hm => h ?_
    obtain ⟨j, hj, rfl⟩ := (mem_rowPieces ht w p).mp hp
    have h0 := (Rect.mem_set_unit (inb := rowPiece_inb ht hj)).mp hm 0
    have h1 : t ≤ (y 0).val := h0.1
    have h2 : (y 0).val < t + 1 := h0.2
    omega

/-- Rows of 128 with the first `t` of them at `new`. -/
def upTo {n : Nat} (t : Nat) (new : Nat → Nat → F .f32) (old : (rowsOf n).Idx → F .f32) : (rowsOf n).Idx → F .f32 :=
  fun j => if (j 0).val < t then new (j 0).val (j 1).val else old j

theorem upTo_succ {n : Nat} (t : Nat) (new : Nat → Nat → F .f32) (old : (rowsOf n).Idx → F .f32) (y : (rowsOf n).Idx) :
    (if (y 0).val = t then new t (y 1).val else upTo t new old y) = upTo (t + 1) new old y := by
  unfold upTo
  split
  · next h => rw [if_pos (by omega), h]
  · next h =>
    split
    · rw [if_pos (by omega)]
    · rw [if_neg (by omega)]

/-! ## The loop over the rows of the first half -/

section Loops

variable (d : Dev nD) (i : grid0.Coords) (X : S8x2048x128.Idx → F .f32) (b q : Nat)

/-- The rows' buffer, as the tile holds it: a region at the quarter's rows. -/
abbrev bufPts (S : Finset S512x128.Idx) : sProp 𝕄 :=
  (Memref.whole cc0_scratch1 : Memref sig .scVector .vmem S512x128 .f32).view.loc (V d (cV i) (jV i)) ↦[S]{fullShare} bufVal X b q

variable (v64 v65 : IVec S16 32) (v66 : FVec F S16 .f32) (v71 : BitVec 32) (v93 v99 : IVec S16 32)

/-- The loop bodies, at the kernel's own buffers. -/
abbrev t2Body (s0 s1 : BitVec 32) (t : Fin k0_t1_loop.trips) (lo hi : BitVec 32) (h : k0_chk1 lo hi) :=
  k0_t2_body (F := F) i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1
    v64 v65 v66 v71 v93 v99 s0 s1 t lo hi h

/-- One trip: every column block's sum gets its next row. -/
theorem t2_trip (s0 s1 : BitVec 32) (t : Fin k0_t1_loop.trips) {lo hi : BitVec 32} (hlo : lo.toNat ≤ 512) (hhi : hi.toNat ≤ 512) (h : k0_chk1 lo hi)
    (k : Fin (k0_t2_loop lo hi).trips) (z : Nat → F .f32) :
    bufPts d i X b q lowRows
      ⊢ wp frame (wpE (defs₀ (F := F)) 𝒱₀ (V d (cV i) (jV i)) none) Set.univ
          (t2Body i v64 v65 v66 v71 v93 v99 s0 s1 t lo hi h k (eight (sums X b q z (min lo.toNat 256) k.val)))
          (fun r => iprop(⌜r = eight (sums X b q z (min lo.toNat 256) (k.val + 1))⌝ ∗ bufPts d i X b q lowRows)) := by
  have hr : min lo.toNat 256 + k.val < 256 := by have := lt_of_lt_of_eq k.isLt (t2_trips hlo hhi); omega
  unfold t2Body k0_t2_body
  iintro H
  iapply (wp_load 𝒱₀ (V d (cV i) (jV i)) none Set.univ (load_low hr (off4_eq hlo hhi k) _)) $$ H; iintro H
  iapply (wp_load 𝒱₀ (V d (cV i) (jV i)) none Set.univ (load_low hr (off5_eq hlo hhi k) _)) $$ H; iintro H
  iapply (wp_load 𝒱₀ (V d (cV i) (jV i)) none Set.univ (load_low hr (off6_eq hlo hhi k) _)) $$ H; iintro H
  iapply (wp_load 𝒱₀ (V d (cV i) (jV i)) none Set.univ (load_low hr (off7_eq hlo hhi k) _)) $$ H; iintro H
  iapply (wp_load 𝒱₀ (V d (cV i) (jV i)) none Set.univ (load_low hr (off8_eq hlo hhi k) _)) $$ H; iintro H
  iapply (wp_load 𝒱₀ (V d (cV i) (jV i)) none Set.univ (load_low hr (off9_eq hlo hhi k) _)) $$ H; iintro H
  iapply (wp_load 𝒱₀ (V d (cV i) (jV i)) none Set.univ (load_low hr (off10_eq hlo hhi k) _)) $$ H; iintro H
  iapply (wp_load 𝒱₀ (V d (cV i) (jV i)) none Set.univ (load_low hr (off11_eq hlo hhi k) _)) $$ H; iintro H
  dsimp only [Prog.bind]
  sl_step
  isplitr [H]; swap
  · iexact H
  ipureintro
  refine eight_ext ?_ ?_ ?_ ?_ ?_ ?_ ?_ ?_
  · exact sums_load X b q z (j := 0) (off4_eq hlo hhi k) _
  · exact sums_load X b q z (j := 1) (off5_eq hlo hhi k) _
  · exact sums_load X b q z (j := 2) (off6_eq hlo hhi k) _
  · exact sums_load X b q z (j := 3) (off7_eq hlo hhi k) _
  · exact sums_load X b q z (j := 4) (off8_eq hlo hhi k) _
  · exact sums_load X b q z (j := 5) (off9_eq hlo hhi k) _
  · exact sums_load X b q z (j := 6) (off10_eq hlo hhi k) _
  · exact sums_load X b q z (j := 7) (off11_eq hlo hhi k) _

/-- The sums' buffer, as the tile holds it. -/
abbrev accPts (f : S8x128.Idx → F .f32) : sProp 𝕄 :=
  (Memref.whole cc0_scratch2 : Memref sig .scVector .vmem S8x128 .f32).view.loc (V d (cV i) (jV i)) ↦{fullShare} f

/-- Eight column blocks written to row `t` of the sums' buffer bring it one row further. -/
theorem acc_writes {t : Nat} (ht : t < 8) (new : Nat → Nat → F .f32) (old : S8x128.Idx → F .f32) (w : Nat → FVec F S16 .f32)
    (hw : ∀ j, j < 8 → ∀ k : Fin 16, w j (lane k) = new t (16 * j + k.val)) {o0 o1 o2 o3 o4 o5 o6 o7 : Fin 2 → Nat}
    (h0 : o0 = ![t, 0]) (h1 : o1 = ![t, 16]) (h2 : o2 = ![t, 32]) (h3 : o3 = ![t, 48]) (h4 : o4 = ![t, 64]) (h5 : o5 = ![t, 80])
    (h6 : o6 = ![t, 96]) (h7 : o7 = ![t, 112]) (i0 : ∀ a, o0 a + S1x16.size a ≤ S8x128.size a) (i1 : ∀ a, o1 a + S1x16.size a ≤ S8x128.size a)
    (i2 : ∀ a, o2 a + S1x16.size a ≤ S8x128.size a) (i3 : ∀ a, o3 a + S1x16.size a ≤ S8x128.size a) (i4 : ∀ a, o4 a + S1x16.size a ≤ S8x128.size a)
    (i5 : ∀ a, o5 a + S1x16.size a ≤ S8x128.size a) (i6 : ∀ a, o6 a + S1x16.size a ≤ S8x128.size a) (i7 : ∀ a, o7 a + S1x16.size a ≤ S8x128.size a) :
    (Memref.whole cc0_scratch2 : Memref sig .scVector .vmem S8x128 .f32).view.writes (Elt F) (upTo (n := 8) t new old)
      [⟨Rect.unit o7 S1x16.size i7, shapeCast S1x16 (w 7) shapeCasts_S16_S1x16⟩, ⟨Rect.unit o6 S1x16.size i6, shapeCast S1x16 (w 6) shapeCasts_S16_S1x16⟩,
        ⟨Rect.unit o5 S1x16.size i5, shapeCast S1x16 (w 5) shapeCasts_S16_S1x16⟩, ⟨Rect.unit o4 S1x16.size i4, shapeCast S1x16 (w 4) shapeCasts_S16_S1x16⟩,
        ⟨Rect.unit o3 S1x16.size i3, shapeCast S1x16 (w 3) shapeCasts_S16_S1x16⟩, ⟨Rect.unit o2 S1x16.size i2, shapeCast S1x16 (w 2) shapeCasts_S16_S1x16⟩,
        ⟨Rect.unit o1 S1x16.size i1, shapeCast S1x16 (w 1) shapeCasts_S16_S1x16⟩, ⟨Rect.unit o0 S1x16.size i0, shapeCast S1x16 (w 0) shapeCasts_S16_S1x16⟩]
      = upTo (n := 8) (t + 1) new old := by
  subst h0 h1 h2 h3 h4 h5 h6 h7
  funext y
  exact (read_rowPieces (Memref.whole cc0_scratch2 : Memref sig .scVector .vmem S8x128 .f32).view (upTo (n := 8) t new old) ht w (new t) hw y).trans
    (upTo_succ t new old y)

/-- The inner loop's state before trip `k`. -/
def inner (S : Finset S512x128.Idx) (z : Nat → F .f32) (a : Nat) (k : Nat)
    (r : FVec F S16 .f32 × FVec F S16 .f32 × FVec F S16 .f32 × FVec F S16 .f32 × FVec F S16 .f32 × FVec F S16 .f32 × FVec F S16 .f32 × FVec F S16 .f32) : sProp 𝕄 :=
  iprop(⌜r = eight (sums X b q z a k)⌝ ∗ bufPts d i X b q S)

abbrev t1Body (w0 w1 : BitVec 32) (Ln : S64.Idx → BitVec 32) :=
  k0_t1_body (F := F) i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1
    w0 w1 lanes k0_pay31 k0_pay32 (BitVec.ofNat 32 (skip b)) (loV Ln b q) (hiV Ln b q)

/-- One patch: its row of the sums' buffer gets the sum of the rows of the first half. -/
theorem t1_trip (hb : b < 8) (w0 w1 : BitVec 32) (Ln : S64.Idx → BitVec 32) (t : Fin k0_t1_loop.trips) (f : S8x128.Idx → F .f32) :
    iprop(bufPts d i X b q lowRows ∗ accPts d i (upTo (n := 8) t.val (half X Ln b q) f))
      ⊢ wp frame (wpE (defs₀ (F := F)) 𝒱₀ (V d (cV i) (jV i)) none) Set.univ (t1Body i b q w0 w1 Ln t ())
          (fun _ => iprop(bufPts d i X b q lowRows ∗ accPts d i (upTo (n := 8) (t.val + 1) (half X Ln b q) f))) := by
  have hlo := loV_le Ln b q (patch b t.val)
  have hhi := hiV_le Ln b q (patch b t.val)
  rw [← lo1_eq hb (loV Ln b q) t] at hlo
  rw [← hi1_eq hb (hiV Ln b q) t] at hhi
  unfold t1Body k0_t1_body
  rw [k0_part1_eq_skeleton]
  unfold k0_part1_skel
  iintro ⟨Hbuf, Hacc⟩
  rw [wp_bind]
  sl_exec (disch := exact chk1_of_le hlo hhi)
  sl_for (inner d i X b q lowRows (fun _ => zeroF) (min _ 256)) $$ [Hbuf]
  case region =>
    intro k r
    unfold inner
    iintro ⟨%hr, H⟩
    subst hr
    iapply (t2_trip d i X b q _ _ _ _ _ _ _ _ t hlo hhi _ k _) $$ H
  · unfold inner
    isplitr [Hbuf]; swap
    · iexact Hbuf
    ipureintro
    rfl
  iintro %r HI
  unfold inner
  icases HI with ⟨%hr, Hbuf⟩
  subst hr
  sl_exec
  sl_step
  isplitl [Hbuf]
  · iexact Hbuf
  have hw := acc_writes (t := t.val) t.isLt (half X Ln b q) f
    (sums X b q (fun _ => zeroF) (min (extractAt ![15] (k0_pay2 lanes k0_pay31 (BitVec.ofNat 32 (skip b)) (loV Ln b q) 0#32 1#32 t) inpos_S16_p15).toNat 256)
      (k0_t2_loop (extractAt ![15] (k0_pay2 lanes k0_pay31 (BitVec.ofNat 32 (skip b)) (loV Ln b q) 0#32 1#32 t) inpos_S16_p15)
        (extractAt ![15] (k0_pay3 lanes k0_pay31 (BitVec.ofNat 32 (skip b)) (hiV Ln b q) 0#32 1#32 t) inpos_S16_p15)).trips)
    (fun j hj k => by rw [t2_trips hlo hhi, lo1_eq hb, hi1_eq hb]; rfl)
    (k0_off20_eq t) (k0_off21_eq t) (k0_off22_eq t) (k0_off23_eq t) (k0_off24_eq t) (k0_off25_eq t) (k0_off26_eq t) (k0_off27_eq t)
    (k0_off20_inb t) (k0_off21_inb t) (k0_off22_inb t) (k0_off23_inb t) (k0_off24_inb t) (k0_off25_inb t) (k0_off26_inb t) (k0_off27_inb t)
  rw [← hw]
  iexact Hacc

/-! ## The loop over the rows of the second half -/

/-- Column block `j` of row `t` of the sums' buffer, while that row is still to come. -/
theorem acc_load {t j : Nat} (new : Nat → Nat → F .f32) (old : Nat → Nat → F .f32) {off : Fin 2 → Nat} (hoff : off = ![t, 16 * j])
    (inb : ∀ a, off a + S1x16.size a ≤ S8x128.size a) (a : Nat) :
    shapeCast S16 ((Memref.whole cc0_scratch2 : Memref sig .scVector .vmem S8x128 .f32).view.readAt (Elt F)
      (Rect.unit (s := S8x128) off S1x16.size inb).toLoadRect (upTo (n := 8) t new fun y => old (y 0).val (y 1).val)) shapeCasts_S1x16_S16
      = sums X b q (old t) a 0 j := by
  subst hoff
  funext l
  refine (castRow_apply _ l).trans ?_
  show (if t + 1 * 0 < t then _ else old (t + 1 * 0) (16 * j + 1 * (l 0).val)) = old t (16 * j + (l 0).val)
  rw [if_neg (by omega)]
  simp only [Nat.one_mul, Nat.mul_zero, Nat.add_zero]

abbrev t5Body (w0 w1 : BitVec 32) (lo hi : BitVec 32) (h : k0_chk2 lo hi) :=
  k0_t5_body (F := F) i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1
    w0 w1 v64 v65 v66 v71 v93 v99 lo hi h

/-- One trip: every column block's sum gets its next row. -/
theorem t5_trip (w0 w1 : BitVec 32) {lo hi : BitVec 32} (hlo : lo.toNat ≤ 512) (hhi : hi.toNat ≤ 512) (h : k0_chk2 lo hi)
    (k : Fin (k0_t5_loop lo hi).trips) (z : Nat → F .f32) :
    bufPts d i X b q Finset.univ
      ⊢ wp frame (wpE (defs₀ (F := F)) 𝒱₀ (V d (cV i) (jV i)) none) Set.univ
          (t5Body i v64 v65 v66 v71 v93 v99 w0 w1 lo hi h k (eight (sums X b q z (max lo.toNat 256) k.val)))
          (fun r => iprop(⌜r = eight (sums X b q z (max lo.toNat 256) (k.val + 1))⌝ ∗ bufPts d i X b q Finset.univ)) := by
  unfold t5Body k0_t5_body
  iintro H
  sl_exec
  sl_step
  isplitr [H]; swap
  · iexact H
  ipureintro
  refine eight_ext ?_ ?_ ?_ ?_ ?_ ?_ ?_ ?_
  · exact sums_load X b q z (j := 0) (off36_eq hlo hhi k) _
  · exact sums_load X b q z (j := 1) (off37_eq hlo hhi k) _
  · exact sums_load X b q z (j := 2) (off38_eq hlo hhi k) _
  · exact sums_load X b q z (j := 3) (off39_eq hlo hhi k) _
  · exact sums_load X b q z (j := 4) (off40_eq hlo hhi k) _
  · exact sums_load X b q z (j := 5) (off41_eq hlo hhi k) _
  · exact sums_load X b q z (j := 6) (off42_eq hlo hhi k) _
  · exact sums_load X b q z (j := 7) (off43_eq hlo hhi k) _

abbrev t4Body (w0 w1 : BitVec 32) (Ln : S64.Idx → BitVec 32) :=
  k0_t4_body (F := F) i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1
    w0 w1 lanes k0_pay31 k0_pay32 (BitVec.ofNat 32 (skip b)) (loV Ln b q) (hiV Ln b q)

/-- One patch: its row of the sums' buffer gets the rows of the second half. -/
theorem t4_trip (hb : b < 8) (w0 w1 : BitVec 32) (Ln : S64.Idx → BitVec 32) (t : Fin k0_t4_loop.trips) :
    iprop(bufPts d i X b q Finset.univ ∗ accPts d i (upTo (n := 8) t.val (part X Ln b q) fun y => half X Ln b q (y 0).val (y 1).val))
      ⊢ wp frame (wpE (defs₀ (F := F)) 𝒱₀ (V d (cV i) (jV i)) none) Set.univ (t4Body i b q w0 w1 Ln t ())
          (fun _ => iprop(bufPts d i X b q Finset.univ ∗ accPts d i (upTo (n := 8) (t.val + 1) (part X Ln b q) fun y => half X Ln b q (y 0).val (y 1).val))) := by
  have hlo := loV_le Ln b q (patch b t.val)
  have hhi := hiV_le Ln b q (patch b t.val)
  rw [← lo2_eq hb (loV Ln b q) t] at hlo
  rw [← hi2_eq hb (hiV Ln b q) t] at hhi
  unfold t4Body k0_t4_body
  rw [k0_part2_eq_skeleton]
  unfold k0_part2_skel
  iintro ⟨Hbuf, Hacc⟩
  sl_exec (disch := exact chk2_of_le hlo hhi)
  sl_for (inner d i X b q Finset.univ (half X Ln b q t.val) (max _ 256)) $$ [Hbuf]
  case region =>
    intro k r
    unfold inner
    iintro ⟨%hr, H⟩
    subst hr
    iapply (t5_trip d i X b q _ _ _ _ _ _ _ _ hlo hhi _ k _) $$ H
  · unfold inner
    isplitr [Hbuf]; swap
    · iexact Hbuf
    ipureintro
    generalize max (BitVec.toNat _) 256 = a
    refine eight_ext ?_ ?_ ?_ ?_ ?_ ?_ ?_ ?_
    · exact acc_load X b q (t := t.val) (j := 0) (part X Ln b q) (half X Ln b q) (k0_off28_eq t) (k0_off28_inb t) _
    · exact acc_load X b q (t := t.val) (j := 1) (part X Ln b q) (half X Ln b q) (k0_off29_eq t) (k0_off29_inb t) _
    · exact acc_load X b q (t := t.val) (j := 2) (part X Ln b q) (half X Ln b q) (k0_off30_eq t) (k0_off30_inb t) _
    · exact acc_load X b q (t := t.val) (j := 3) (part X Ln b q) (half X Ln b q) (k0_off31_eq t) (k0_off31_inb t) _
    · exact acc_load X b q (t := t.val) (j := 4) (part X Ln b q) (half X Ln b q) (k0_off32_eq t) (k0_off32_inb t) _
    · exact acc_load X b q (t := t.val) (j := 5) (part X Ln b q) (half X Ln b q) (k0_off33_eq t) (k0_off33_inb t) _
    · exact acc_load X b q (t := t.val) (j := 6) (part X Ln b q) (half X Ln b q) (k0_off34_eq t) (k0_off34_inb t) _
    · exact acc_load X b q (t := t.val) (j := 7) (part X Ln b q) (half X Ln b q) (k0_off35_eq t) (k0_off35_inb t) _
  iintro %r HI
  unfold inner
  icases HI with ⟨%hr, Hbuf⟩
  subst hr
  sl_exec
  sl_step
  isplitl [Hbuf]
  · iexact Hbuf
  have hw := acc_writes (t := t.val) t.isLt (part X Ln b q) (fun y => half X Ln b q (y 0).val (y 1).val)
    (sums X b q (half X Ln b q t.val) (max (extractAt ![15] (k0_pay21 lanes k0_pay31 (BitVec.ofNat 32 (skip b)) (loV Ln b q) 0#32 1#32 t) inpos_S16_p15).toNat 256)
      (k0_t5_loop (extractAt ![15] (k0_pay21 lanes k0_pay31 (BitVec.ofNat 32 (skip b)) (loV Ln b q) 0#32 1#32 t) inpos_S16_p15)
        (extractAt ![15] (k0_pay22 lanes k0_pay31 (BitVec.ofNat 32 (skip b)) (hiV Ln b q) 0#32 1#32 t) inpos_S16_p15)).trips)
    (fun j hj k => by rw [t5_trips hlo hhi, lo2_eq hb, hi2_eq hb]; rfl)
    (k0_off52_eq t) (k0_off53_eq t) (k0_off54_eq t) (k0_off55_eq t) (k0_off56_eq t) (k0_off57_eq t) (k0_off58_eq t) (k0_off59_eq t)
    (k0_off52_inb t) (k0_off53_inb t) (k0_off54_inb t) (k0_off55_inb t) (k0_off56_inb t) (k0_off57_inb t) (k0_off58_inb t) (k0_off59_inb t)
  rw [← hw]
  iexact Hacc

end Loops

end Cert.Proof.Pool
-- ==== Proof.Tile.lean ====
/-
  What one tile does, from its copies in to its copies out.
-/
module

public import Idealize.ShloMosaic.Lib.ValueLayout
public import proofs.«01_k».proof.Proof.Sums

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The regions the copies name -/

/-- The two halves of the rows' buffer. -/
abbrev lowM : Memref sig .scVector .vmem S256x128 .f32 :=
  (Memref.whole cc0_scratch1).slice (Rect.unit (s := S512x128) ![0, 0] S256x128.size inb_S512x128_S256x128_0_0) (fun _ => rfl)
abbrev highM : Memref sig .scVector .vmem S256x128 .f32 :=
  (Memref.whole cc0_scratch1).slice (Rect.unit (s := S512x128) ![256, 0] S256x128.size inb_S512x128_S256x128_256_0) (fun _ => rfl)

/-- The second half of the rows' buffer. -/
def highRows : Finset S512x128.Idx := Finset.univ.filter fun j => ¬(j 0).val < 256

theorem low_high_disjoint : Disjoint lowRows highRows := Finset.disjoint_filter_filter_not _ _ _
theorem low_high_union : lowRows ∪ highRows = Finset.univ := Finset.filter_union_filter_not_eq _ _

theorem set_lowM : lowM.view.set = lowRows := by
  refine (View.set_slice_whole (cc0_scratch1 : Ref sig .scVector) (Rect.unit (s := S512x128) ![0, 0] S256x128.size inb_S512x128_S256x128_0_0)).trans ?_
  ext j
  rw [Rect.mem_set_unit (inb := inb_S512x128_S256x128_0_0)]
  have h1 : (j 1).val < 128 := (j 1).isLt
  constructor
  · intro h
    have h0 := (h 0).2
    change (j 0).val < 0 + 256 at h0
    exact Finset.mem_filter.mpr ⟨Finset.mem_univ _, by omega⟩
  · intro h a
    have h0 := (Finset.mem_filter.mp h).2
    match a with
    | 0 => exact ⟨Nat.zero_le _, show (j 0).val < 0 + 256 by omega⟩
    | 1 => exact ⟨Nat.zero_le _, show (j 1).val < 0 + 128 by omega⟩

theorem set_highM : highM.view.set = highRows := by
  refine (View.set_slice_whole (cc0_scratch1 : Ref sig .scVector) (Rect.unit (s := S512x128) ![256, 0] S256x128.size inb_S512x128_S256x128_256_0)).trans ?_
  ext j
  rw [Rect.mem_set_unit (inb := inb_S512x128_S256x128_256_0)]
  have h1 : (j 1).val < 128 := (j 1).isLt
  have h0' : (j 0).val < 512 := (j 0).isLt
  constructor
  · intro h
    have h0 := (h 0).1
    change 256 ≤ (j 0).val at h0
    exact Finset.mem_filter.mpr ⟨Finset.mem_univ _, by omega⟩
  · intro h a
    have h0 := (Finset.mem_filter.mp h).2
    match a with
    | 0 => exact ⟨show 256 ≤ (j 0).val by omega, show (j 0).val < 256 + 256 by omega⟩
    | 1 => exact ⟨Nat.zero_le _, show (j 1).val < 0 + 128 by omega⟩

variable (i : grid0.Coords)

/-- The tile's row of the shared scratch. -/
abbrev shRowM : Memref sig .scVector .shared S8x128 .f32 :=
  ((Memref.whole cc0_scratch5).slice (Rect.unit (s := S16x8x128) (k0_off60 i) S1x8x128.size (k0_off60_inb i)) (fun _ => rfl)).squeeze S8x128 squeezes_S1x8x128_S8x128
/-- What the tile reads of the shared scratch. -/
abbrev shReadM : Memref sig .scVector .shared S4x2x128 .f32 :=
  (Memref.whole cc0_scratch5).slice (Rect.unit (s := S16x8x128) (k0_off61 i) S4x2x128.size (k0_off61_inb i)) (fun _ => rfl)
/-- The tile's two patches of the result. -/
abbrev outM (w : Fin 2) : Memref sig .scVector .hbm S128 .f32 :=
  ((Memref.whole main_v1_scv).slice (Rect.unit (s := S8x8x128) (k0_off62 i (BitVec.ofNat 32 w.val)) S1x1x128.size (k0_off62_inb i w)) (fun _ => rfl)).squeeze S128 squeezes_S1x1x128_S128

theorem set_shRowM : (shRowM i).view.set = shRow (i 1).val := by
  show (((Memref.whole cc0_scratch5 : Memref sig .scVector .shared S16x8x128 .f32).view.slice
    (Rect.unit (s := S16x8x128) (k0_off60 i) S1x8x128.size (k0_off60_inb i))).reshape S8x128 squeezes_S1x8x128_S8x128.numel_eq).set = _
  rw [View.set_reshape]
  refine (View.set_slice_whole (cc0_scratch5 : Ref sig .scVector) (Rect.unit (s := S16x8x128) (k0_off60 i) S1x8x128.size (k0_off60_inb i))).trans ?_
  ext j
  rw [Rect.mem_set_unit (inb := k0_off60_inb i), off60_eq]
  have h1 : (j 1).val < 8 := (j 1).isLt
  have h2 : (j 2).val < 128 := (j 2).isLt
  constructor
  · intro h
    have h0 := h 0
    change (i 1).val ≤ (j 0).val ∧ (j 0).val < (i 1).val + 1 at h0
    exact Finset.mem_filter.mpr ⟨Finset.mem_univ _, by omega⟩
  · intro h a
    have h0 := (Finset.mem_filter.mp h).2
    match a with
    | 0 => exact ⟨show (i 1).val ≤ (j 0).val by omega, show (j 0).val < (i 1).val + 1 by omega⟩
    | 1 => exact ⟨Nat.zero_le _, show (j 1).val < 0 + 8 by omega⟩
    | 2 => exact ⟨Nat.zero_le _, show (j 2).val < 0 + 128 by omega⟩

theorem set_shReadM : (shReadM i).view.set = shRead (i 1).val := by
  refine (View.set_slice_whole (cc0_scratch5 : Ref sig .scVector) (Rect.unit (s := S16x8x128) (k0_off61 i) S4x2x128.size (k0_off61_inb i))).trans ?_
  ext j
  rw [Rect.mem_set_unit (inb := k0_off61_inb i), off61_eq]
  have h2 : (j 2).val < 128 := (j 2).isLt
  unfold grp qtr
  constructor
  · intro h
    have h0 := h 0
    have h1 := h 1
    change 4 * ((i 1).val / 4) ≤ (j 0).val ∧ (j 0).val < 4 * ((i 1).val / 4) + 4 at h0
    change 2 * ((i 1).val % 4) ≤ (j 1).val ∧ (j 1).val < 2 * ((i 1).val % 4) + 2 at h1
    exact Finset.mem_filter.mpr ⟨Finset.mem_univ _, by omega, by omega⟩
  · intro h a
    have h0 := (Finset.mem_filter.mp h).2
    match a with
    | 0 => exact ⟨show 4 * ((i 1).val / 4) ≤ (j 0).val by omega, show (j 0).val < 4 * ((i 1).val / 4) + 4 by omega⟩
    | 1 => exact ⟨show 2 * ((i 1).val % 4) ≤ (j 1).val by omega, show (j 1).val < 2 * ((i 1).val % 4) + 2 by omega⟩
    | 2 => exact ⟨Nat.zero_le _, show (j 2).val < 0 + 128 by omega⟩

/-- Where the two patches lie in the result. -/
theorem off62_eq (w : Fin 2) : k0_off62 i (BitVec.ofNat 32 w.val) = ![bat i, 2 * qtr i + w.val, 0] := by
  match w with
  | 0 => exact off62_zero_eq i
  | 1 => exact off62_one_eq i

theorem set_outM (w : Fin 2) : (outM i w).view.set = outRow (bat i) (2 * qtr i + w.val) := by
  show (((Memref.whole main_v1_scv : Memref sig .scVector .hbm S8x8x128 .f32).view.slice
    (Rect.unit (s := S8x8x128) (k0_off62 i (BitVec.ofNat 32 w.val)) S1x1x128.size (k0_off62_inb i w))).reshape S128 squeezes_S1x1x128_S128.numel_eq).set = _
  rw [View.set_reshape]
  refine (View.set_slice_whole (main_v1_scv : Ref sig .scVector) (Rect.unit (s := S8x8x128) (k0_off62 i (BitVec.ofNat 32 w.val)) S1x1x128.size (k0_off62_inb i w))).trans ?_
  ext j
  rw [Rect.mem_set_unit (inb := k0_off62_inb i w), off62_eq]
  have h2 : (j 2).val < 128 := (j 2).isLt
  constructor
  · intro h
    have h0 := h 0
    have h1 := h 1
    change bat i ≤ (j 0).val ∧ (j 0).val < bat i + 1 at h0
    change 2 * qtr i + w.val ≤ (j 1).val ∧ (j 1).val < 2 * qtr i + w.val + 1 at h1
    exact Finset.mem_filter.mpr ⟨Finset.mem_univ _, by omega, by omega⟩
  · intro h a
    have h0 := (Finset.mem_filter.mp h).2
    match a with
    | 0 => exact ⟨show bat i ≤ (j 0).val by omega, show (j 0).val < bat i + 1 by omega⟩
    | 1 => exact ⟨show 2 * qtr i + w.val ≤ (j 1).val by omega, show (j 1).val < 2 * qtr i + w.val + 1 by omega⟩
    | 2 => exact ⟨Nat.zero_le _, show (j 2).val < 0 + 128 by omega⟩

/-! ## The task in stages -/

/-- Two pairs with equal parts. -/
theorem psig_ext {α β : Type} {a a' : α} {b b' : β} (h : a = a') (h' : b = b') : (⟨a, b⟩ : Σ' (_ : α), β) = ⟨a', b'⟩ := by
  subst h h'; rfl

/-- Which part of the problem the task works on, as the words it computes. -/
theorem part3_eq (i : grid0.Coords) : k0_part3 (F := F) i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1
    = Prog.ret ⟨BitVec.ofNat 32 (i 1).val, BitVec.ofNat 32 (bat i), BitVec.ofNat 32 (bat i % 4), BitVec.ofNat 32 (qtr i), 0#1, BitVec.ofNat 32 (qtr i + 4)⟩ := by
  rw [k0_part3_eq_skeleton]
  unfold k0_part3_skel
  refine congrArg Prog.ret (psig_ext rfl (psig_ext ?_ (psig_ext ?_ (psig_ext ?_ (psig_ext ?_ ?_)))))
  · revert i; decide +kernel
  · revert i; decide +kernel
  · revert i; decide +kernel
  · revert i; decide +kernel
  · revert i; decide +kernel

/-- The task from its read of the shared scratch on. -/
def tailP (i : grid0.Coords) (v50 : BitVec 32) (v64 v65 : IVec S16 32) (v71 : BitVec 32) (v87 : IVec S16 32) :
    Prog (TpuEff nD τ sig (Elt F) Λ₀ (.scVector ((i 0).castLE hcore0) ((i 1).castLE hsub0))) PUnit := do
  let ⟨v132, v133, v134⟩ : Σ' (v132 : F .f32) (v133 : BitVec 1), FVec F S16 .f32 ← k0_part7 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v50 v64 v65 v71 v87
  let v181 : FVec F S16 .f32 ← k0_part8 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v132 v133 v134
  k0_part9 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v132 v133 v134 v181
  let v241 : FVec F S16 .f32 ← k0_part10 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v132 v133 v134
  k0_part11 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v132 v133 v134 v241
  let v307 : IVec S16 32 ← k0_part12 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v50 v64 v65 v71 v87 v132 v133 v134
  let ⟨v312, v313, v314, v337, c1_i32_204, c1_i32_205⟩ : Σ' (v312 : F .f32) (v313 : BitVec 1) (v314 : FVec F S16 .f32) (v337 : Vec F S16 .f32) (c1_i32_204 : BitVec 32), BitVec 32 ← k0_part13 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v307
  let ⟨v365, v368_ld⟩ : Σ' (v365 : FVec F S16 .f32), Vec F S1x1x16 .f32 ← k0_part14 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v312 v313 v314 v337 c1_i32_204 c1_i32_205
  let ⟨v397, c1_i32_246, c1_i32_247⟩ : Σ' (v397 : Vec F S16 .f32) (c1_i32_246 : BitVec 32), BitVec 32 ← k0_part15 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v312 v313 v314 v365 v368_ld
  let ⟨v425, v428_ld⟩ : Σ' (v425 : FVec F S16 .f32), Vec F S1x1x16 .f32 ← k0_part16 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v312 v313 v314 v397 c1_i32_246 c1_i32_247
  let ⟨v457, c1_i32_288, c1_i32_289⟩ : Σ' (v457 : Vec F S16 .f32) (c1_i32_288 : BitVec 32), BitVec 32 ← k0_part17 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v312 v313 v314 v425 v428_ld
  k0_part18 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v50 v312 v313 v314 v457 c1_i32_288 c1_i32_289
  let v488 : Memref sig .scVector .hbm S1x1x128 .f32 := (Memref.whole main_v1_scv).slice (Rect.unit (s := S8x8x128) (k0_off62 i 0#32) S1x1x128.size (k0_off62_inb i 0)) (fun _ => rfl)
  let v489 : Memref sig .scVector .hbm S128 .f32 := v488.squeeze S128 squeezes_S1x1x128_S128
  let v490 : Memref sig .scVector .vmem S1x128 .f32 := (Memref.whole cc0_scratch4).slice (Rect.unit (s := S2x128) ![0, 0] S1x128.size inb_S2x128_S1x128_0_0) (fun _ => rfl)
  let v491 : Memref sig .scVector .vmem S128 .f32 := v490.squeeze S128 squeezes_S1x128_S128
  Prog.lift (.waitDma2 cc0_scratch9.sem v491 v489 ((View.wordExact_bits rfl).reshape _ _) ((View.wordExact_bits rfl).reshape _ _))
  let v497 : Memref sig .scVector .hbm S1x1x128 .f32 := (Memref.whole main_v1_scv).slice (Rect.unit (s := S8x8x128) (k0_off62 i 1#32) S1x1x128.size (k0_off62_inb i 1)) (fun _ => rfl)
  let v498 : Memref sig .scVector .hbm S128 .f32 := v497.squeeze S128 squeezes_S1x1x128_S128
  let v499 : Memref sig .scVector .vmem S1x128 .f32 := (Memref.whole cc0_scratch4).slice (Rect.unit (s := S2x128) ![1, 0] S1x128.size inb_S2x128_S1x128_1_0) (fun _ => rfl)
  let v500 : Memref sig .scVector .vmem S128 .f32 := v499.squeeze S128 squeezes_S1x128_S128
  Prog.lift (.waitDma2 cc0_scratch9.sem v500 v498 ((View.wordExact_bits rfl).reshape _ _) ((View.wordExact_bits rfl).reshape _ _))
  pure ⟨⟩

/-- The task in its stages. -/
theorem cc0_k_eq (i : grid0.Coords) : cc0_k (F := F) i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 = (do
  let ⟨v39, v50, v64, v65, v66, v67, v69, v71, v72⟩ : Σ' (v39 : BitVec 32) (v50 : BitVec 32) (v64 : IVec S16 32) (v65 : IVec S16 32) (v66 : FVec F S16 .f32) (v67 : Vec F S16 .i32) (v69 : IVec S16 32) (v71 : BitVec 32), BitVec 1 ← k0_part4 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 (BitVec.ofNat 32 (i 1).val) (BitVec.ofNat 32 (bat i)) (BitVec.ofNat 32 (qtr i)) 0#1 (BitVec.ofNat 32 (qtr i + 4))
  let ⟨v87, v93, v99⟩ : Σ' (v87 : IVec S16 32) (v93 : IVec S16 32), IVec S16 32 ← k0_part5 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 v39 v64 v65 v67 v69 v72
  k0_part6 i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 (BitVec.ofNat 32 (bat i % 4)) v39 v64 v65 v66 v71 v93 v99
  tailP i v50 v64 v65 v71 v87) := by
  rw [cc0_k_eq_skeleton]
  unfold cc0_k_skel
  rw [part3_eq]
  rfl

/-! ## What a copy leaves -/

/-- A region that a copy filled with what `g` holds there is at `g`. -/
theorem landed {κ : Kind} {sp : Space} {s : Shape} {e : EltTy} (v : View sig κ sp s e) (f g : v.ty.Contents (Elt F)) (w : s.Idx → Elt F e)
    (h : ∀ y, w y = v.read (Elt F) g y) : ∀ j ∈ v.set, v.writes (Elt F) f [⟨Rect.whole s, w⟩] j = g j := by
  intro j hj
  obtain ⟨y, -, rfl⟩ := Finset.mem_map.mp hj
  have hr : v.read (Elt F) (v.writes (Elt F) f [⟨Rect.whole s, w⟩]) y = v.read (Elt F) g y := by
    refine View.read_writes_apply_of_pieces v f (v.read (Elt F) g) [⟨Rect.whole s, w⟩] (fun p hp => ?_) y
      ⟨_, List.mem_singleton.mpr rfl, by rw [Rect.set_whole]; exact Finset.mem_univ y⟩
    obtain rfl := List.mem_singleton.mp hp
    intro x
    exact (h x).trans (congrArg (v.read (Elt F) g) (Rect.emb_whole_apply s x).symm)
  rw [View.read_apply, View.read_apply] at hr
  exact eq_of_heq ((cast_heq _ _).symm.trans ((heq_of_eq hr).trans (cast_heq _ _)))

/-- Matching a shape with the same one behind an axis of one. -/
theorem cast_behind {a b : Nat} (h : (⟨2, ![a, b]⟩ : Shape).numel = (⟨3, ![1, a, b]⟩ : Shape).numel) (y : (⟨2, ![a, b]⟩ : Shape).Idx) :
    Shape.reshapeEquiv h y = ix3 (0 : Fin 1) (y 0 : Fin a) (y 1 : Fin b) := by
  obtain ⟨k, l, rfl⟩ : ∃ (k : Fin a) (l : Fin b), y = ix2 k l := ⟨_, _, eq_ix2 y⟩
  exact reshapeEquiv_ix2_1ab h k l

/-- 256 rows of a batch, read as they lie. -/
theorem read_rows (X : S8x2048x128.Idx → F .f32) (b r : Nat) (hb : b < 8) (hr : r + 256 ≤ 2048) {off : Fin 3 → Nat} (hoff : off = ![b, r, 0])
    (inb : ∀ a, off a + S1x256x128.size a ≤ S8x2048x128.size a) (y : S256x128.Idx) :
    (((Memref.whole main_arg0_scv : Memref sig .scVector .hbm S8x2048x128 .f32).slice (Rect.unit (s := S8x2048x128) off S1x256x128.size inb)
      (fun _ => rfl)).squeeze S256x128 squeezes_S1x256x128_S256x128).view.read (Elt F) X y = rowAt X b (r + (y 0).val) (y 1).val := by
  subst hoff
  have h0 : (y 0).val < 256 := (y 0).isLt
  have h1 : (y 1).val < 128 := (y 1).isLt
  have hc := cast_behind (a := 256) (b := 128) squeezes_S1x256x128_S256x128.numel_eq y
  show X ((Rect.unit (s := S8x2048x128) ![b, r, 0] S1x256x128.size inb).emb (Shape.reshapeEquiv squeezes_S1x256x128_S256x128.numel_eq y)) = _
  rw [hc]
  unfold rowAt
  refine congrArg X ?_
  funext a
  refine Fin.ext ?_
  match a with
  | 0 => show b + 1 * 0 = b % 8; omega
  | 1 => show r + 1 * (y 0).val = (r + (y 0).val) % 2048; omega
  | 2 => show 0 + 1 * (y 1).val = (y 1).val % 128; omega

/-- The two halves of the quarter's rows, landed. -/
theorem low_landed (X : S8x2048x128.Idx → F .f32) (b q : Nat) (f : S512x128.Idx → F .f32) (w : S256x128.Idx → F .f32)
    (h : ∀ y : S256x128.Idx, w y = rowAt X b (512 * q + (y 0).val) (y 1).val) :
    ∀ j ∈ lowM.view.set, lowM.view.writes (Elt F) f [⟨Rect.whole S256x128, w⟩] j = bufVal X b q j := by
  refine landed lowM.view f (bufVal X b q) w fun y => (h y).trans ?_
  show _ = rowAt X b (512 * q + (0 + 1 * (y 0).val)) (0 + 1 * (y 1).val)
  simp only [Nat.one_mul, Nat.zero_add]

theorem high_landed (X : S8x2048x128.Idx → F .f32) (b q : Nat) (f : S512x128.Idx → F .f32) (w : S256x128.Idx → F .f32)
    (h : ∀ y : S256x128.Idx, w y = rowAt X b (512 * q + 256 + (y 0).val) (y 1).val) :
    ∀ j ∈ highM.view.set, highM.view.writes (Elt F) f [⟨Rect.whole S256x128, w⟩] j = bufVal X b q j := by
  refine landed highM.view f (bufVal X b q) w fun y => (h y).trans ?_
  show _ = rowAt X b (512 * q + (256 + 1 * (y 0).val)) (0 + 1 * (y 1).val)
  simp only [Nat.one_mul, Nat.zero_add, Nat.add_assoc]

/-- The sixteen lengths, read as they lie. -/
theorem read_lens (Ln : S64.Idx → BitVec 32) (b : Nat) {off : Fin 1 → Nat} (hoff : off = ![win0 b]) (inb : ∀ a, off a + S16.size a ≤ S64.size a)
    (y : S16.Idx) :
    ((Memref.whole main_v0_scv : Memref sig .scVector .hbm S64 .i32).slice (Rect.unit (s := S64) off S16.size inb)
      (fun _ => rfl)).view.read (Elt F) Ln y = win Ln b y := by
  subst hoff
  show Ln _ = Ln _
  refine congrArg Ln ?_
  have h0 : (y 0).val < 16 := (y 0).isLt
  have hw := win0_le b
  funext a
  refine Fin.ext ?_
  match a with
  | 0 => show win0 b + 1 * (y 0).val = (win0 b + (y 0).val) % 64; omega

/-- Contents of the shared scratch, read at one row. -/
theorem read_row (s : Nat) (g : Nat → Nat → Nat → F .f32) {off : Fin 3 → Nat} (hoff : off = ![s, 0, 0])
    (inb : ∀ a, off a + S1x8x128.size a ≤ S16x8x128.size a) (y : S8x128.Idx) :
    (((Memref.whole cc0_scratch5 : Memref sig .scVector .shared S16x8x128 .f32).slice (Rect.unit (s := S16x8x128) off S1x8x128.size inb)
      (fun _ => rfl)).squeeze S8x128 squeezes_S1x8x128_S8x128).view.read (Elt F) (fun j : S16x8x128.Idx => g (j 0).val (j 1).val (j 2).val) y
      = g s (y 0).val (y 1).val := by
  subst hoff
  have hc := cast_behind (a := 8) (b := 128) squeezes_S1x8x128_S8x128.numel_eq y
  show (fun j : S16x8x128.Idx => g (j 0).val (j 1).val (j 2).val)
    ((Rect.unit (s := S16x8x128) ![s, 0, 0] S1x8x128.size inb).emb (Shape.reshapeEquiv squeezes_S1x8x128_S8x128.numel_eq y)) = _
  rw [hc]
  show g (s + 1 * 0) (0 + 1 * (y 0).val) (0 + 1 * (y 1).val) = _
  simp only [Nat.one_mul, Nat.zero_add, Nat.mul_zero, Nat.add_zero]

/-- The sums of the tile's row, landed in the shared scratch. -/
theorem row_landed (m : (ℓ : Loc nD τ sig) → Buf (Elt F) ℓ) (d : Dev nD) (f : S16x8x128.Idx → F .f32) (w : S8x128.Idx → F .f32)
    (h : ∀ y : S8x128.Idx, w y = part (rows m d) (lens m d) (bat i) (qtr i) (y 0).val (y 1).val) :
    ∀ j ∈ (shRowM i).view.set, (shRowM i).view.writes (Elt F) f [⟨Rect.whole S8x128, w⟩] j = shVal m d (cV i) j :=
  landed (shRowM i).view f (shVal m d (cV i)) w fun y => (h y).trans
    (read_row (i 1).val (fun s p c => part (rows m d) (lens m d) (4 * (cV i).val + s / 4) (s % 4) p c) (off60_eq i) (k0_off60_inb i) y).symm

/-- The two patches' sums of the batch's four quarters. -/
def parts (X : S8x2048x128.Idx → F .f32) (Ln : S64.Idx → BitVec 32) (b q : Nat) : S4x2x128.Idx → F .f32 :=
  fun y => part X Ln b (y 0).val (2 * q + (y 1).val) (y 2).val

/-- Contents of the shared scratch, read at two patches of four rows. -/
theorem read_four (s p : Nat) (g : Nat → Nat → Nat → F .f32) {off : Fin 3 → Nat} (hoff : off = ![s, p, 0])
    (inb : ∀ a, off a + S4x2x128.size a ≤ S16x8x128.size a) (y : S4x2x128.Idx) :
    ((Memref.whole cc0_scratch5 : Memref sig .scVector .shared S16x8x128 .f32).slice (Rect.unit (s := S16x8x128) off S4x2x128.size inb)
      (fun _ => rfl)).view.read (Elt F) (fun j : S16x8x128.Idx => g (j 0).val (j 1).val (j 2).val) y
      = g (s + (y 0).val) (p + (y 1).val) (y 2).val := by
  subst hoff
  show g (s + 1 * (y 0).val) (p + 1 * (y 1).val) (0 + 1 * (y 2).val) = _
  simp only [Nat.one_mul, Nat.zero_add]

/-- The numbers of a tile's batch and quarters, from the row it reads. -/
theorem row_read (s : Nat) (hs : s < 4) : 4 * (i 0).val + (4 * grp i + s) / 4 = bat i ∧ (4 * grp i + s) % 4 = s := by
  unfold grp bat; omega

/-- What the tile reads of the shared scratch. -/
theorem read_shared (m : (ℓ : Loc nD τ sig) → Buf (Elt F) ℓ) (d : Dev nD) (y : S4x2x128.Idx) :
    (shReadM i).view.read (Elt F) (shVal m d (cV i)) y = parts (rows m d) (lens m d) (bat i) (qtr i) y := by
  have h := read_four (4 * grp i) (2 * qtr i) (fun s p c => part (rows m d) (lens m d) (4 * (i 0).val + s / 4) (s % 4) p c) (off61_eq i) (k0_off61_inb i) y
  simp only [(row_read i (y 0).val (y 0).isLt).1, (row_read i (y 0).val (y 0).isLt).2] at h
  exact h

theorem cast_line (h : (⟨1, ![128]⟩ : Shape).numel = (⟨3, ![1, 1, 128]⟩ : Shape).numel) (k : Fin 128) : Shape.reshapeEquiv h (ix1 k) = ix3 (0 : Fin 1) (0 : Fin 1) k :=
  Shape.reshapeEquiv_eq_of_rowMajor _ (by
    rw [Shape.rowMajor_val_three, Shape.rowMajor_val_one]
    show (0 * 1 + 0) * 128 + k.val = k.val
    omega)

/-- Contents of the result, read at one patch. -/
theorem read_patch (b p : Nat) (g : Nat → Nat → Nat → F .f32) {off : Fin 3 → Nat} (hoff : off = ![b, p, 0])
    (inb : ∀ a, off a + S1x1x128.size a ≤ S8x8x128.size a) (y : S128.Idx) :
    (((Memref.whole main_v1_scv : Memref sig .scVector .hbm S8x8x128 .f32).slice (Rect.unit (s := S8x8x128) off S1x1x128.size inb)
      (fun _ => rfl)).squeeze S128 squeezes_S1x1x128_S128).view.read (Elt F) (fun j : S8x8x128.Idx => g (j 0).val (j 1).val (j 2).val) y
      = g b p (y 0).val := by
  subst hoff
  have hc : Shape.reshapeEquiv squeezes_S1x1x128_S128.numel_eq y = ix3 (0 : Fin 1) (0 : Fin 1) (y 0 : Fin 128) := by
    conv_lhs => rw [eq_ix1 y]
    exact cast_line _ _
  show (fun j : S8x8x128.Idx => g (j 0).val (j 1).val (j 2).val)
    ((Rect.unit (s := S8x8x128) ![b, p, 0] S1x1x128.size inb).emb (Shape.reshapeEquiv squeezes_S1x1x128_S128.numel_eq y)) = _
  rw [hc]
  show g (b + 1 * 0) (p + 1 * 0) (0 + 1 * (y 0).val) = g b p (y 0).val
  simp only [Nat.one_mul, Nat.zero_add, Nat.mul_zero, Nat.add_zero]

/-- A patch's means, landed in the result. -/
theorem out_landed (m : (ℓ : Loc nD τ sig) → Buf (Elt F) ℓ) (d : Dev nD) (p : Fin 2) (f : S8x8x128.Idx → F .f32) (w : S128.Idx → F .f32)
    (h : ∀ y : S128.Idx, w y = meanAt (rows m d) (lens m d) (bat i) (2 * qtr i + p.val) (y 0).val) :
    ∀ j ∈ (outM i p).view.set, (outM i p).view.writes (Elt F) f [⟨Rect.whole S128, w⟩] j = outVal m d j :=
  landed (outM i p).view f (outVal m d) w fun y => (h y).trans
    (read_patch (bat i) (2 * qtr i + p.val) (meanAt (rows m d) (lens m d)) (off62_eq i p) (k0_off62_inb i p) y).symm

end Cert.Proof.Pool
-- ==== Proof.Means.lean ====
/-
  The values of a tile's two rows of the result, from the four quarters' sums of its two patches.
-/
module

public import proofs.«01_k».proof.Proof.Tile

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The means, as the kernel's vectors hold them -/

/-- Sixteen elements of the result, from the patch's row count and its four quarters' sums. -/
def meanVec (n : BitVec 32) (a0 a1 a2 a3 : FVec F S16 .f32) : FVec F S16 .f32 :=
  Scalar.select (Scalar.cmpi .eq n 0#32) (broadcast S16 (Scalar.ofBits .f32 0xBF800000#32 : F .f32))
    (divf (addf (addf (addf a0 a1) a2) a3) (broadcast S16 (Scalar.sitofp .f32 (Scalar.maxsi n 1#32) : F .f32)))

theorem meanVec_lane (n : BitVec 32) (a0 a1 a2 a3 : FVec F S16 .f32) (l : S16.Idx) :
    meanVec n a0 a1 a2 a3 l = mean n (a0 l) (a1 l) (a2 l) (a3 l) := by
  unfold meanVec mean Scalar.select
  split <;> rfl

/-- Column block `j` of one quarter's sums of patch `p`. -/
def partVec (X : S8x2048x128.Idx → F .f32) (Ln : S64.Idx → BitVec 32) (b s p j : Nat) : FVec F S16 .f32 :=
  fun l => part X Ln b s p (16 * j + (l 0).val)

/-- Column block `j` of the means of patch `p`. -/
def meanChunk (X : S8x2048x128.Idx → F .f32) (Ln : S64.Idx → BitVec 32) (b p j : Nat) : FVec F S16 .f32 :=
  meanVec (cntV Ln b (patch b p)) (partVec X Ln b 0 p j) (partVec X Ln b 1 p j) (partVec X Ln b 2 p j) (partVec X Ln b 3 p j)

theorem meanChunk_lane (X : S8x2048x128.Idx → F .f32) (Ln : S64.Idx → BitVec 32) (b p j : Nat) (k : Fin 16) :
    meanChunk X Ln b p j (lane k) = meanAt X Ln b p (16 * j + k.val) :=
  meanVec_lane _ _ _ _ _ _

/-- A cell row of sixteen read as a vector. -/
theorem castCell_apply (v : S1x1x16.Idx → F .f32) (l : S16.Idx) : shapeCast S16 v shapeCasts_S1x1x16_S16 l = v (ix3 (0 : Fin 1) (0 : Fin 1) (l 0)) := by
  rw [lane_eq l]; exact congrArg v (cast_cell (l 0))

/-- Sixteen elements of the result from four loaded cell rows. -/
abbrev castMean (n : BitVec 32) (x0 x1 x2 x3 : Vec F S1x1x16 .f32) : FVec F S16 .f32 :=
  meanVec n (shapeCast S16 x0 shapeCasts_S1x1x16_S16) (shapeCast S16 x1 shapeCasts_S1x1x16_S16) (shapeCast S16 x2 shapeCasts_S1x1x16_S16)
    (shapeCast S16 x3 shapeCasts_S1x1x16_S16)

/-! The vectors that the kernel stores are of this form. -/

theorem pay60_eq (n : BitVec 32) (x0 x1 x2 x3 : Vec F S1x1x16 .f32) :
    k0_pay60 (Scalar.sitofp .f32 (Scalar.maxsi n 1#32)) (Scalar.cmpi .eq n 0#32) k0_pay58 x0 x1 x2 x3 = castMean n x0 x1 x2 x3 := rfl
theorem pay63_eq (n : BitVec 32) (x0 x1 x2 x3 : Vec F S1x1x16 .f32) :
    k0_pay63 (Scalar.sitofp .f32 (Scalar.maxsi n 1#32)) (Scalar.cmpi .eq n 0#32) k0_pay58 x0 x1 x2 x3 = castMean n x0 x1 x2 x3 := rfl
theorem pay64_eq (n : BitVec 32) (x0 x1 x2 x3 : Vec F S1x1x16 .f32) :
    k0_pay64 (Scalar.sitofp .f32 (Scalar.maxsi n 1#32)) (Scalar.cmpi .eq n 0#32) k0_pay58 x0 x1 x2 x3 = castMean n x0 x1 x2 x3 := rfl
theorem pay67_eq (n : BitVec 32) (x0 x1 x2 x3 : Vec F S1x1x16 .f32) :
    k0_pay67 (Scalar.sitofp .f32 (Scalar.maxsi n 1#32)) (Scalar.cmpi .eq n 0#32) k0_pay58 x0 x1 x2 x3 = castMean n x0 x1 x2 x3 := rfl
theorem pay68_eq (n : BitVec 32) (x0 x1 x2 x3 : Vec F S1x1x16 .f32) :
    k0_pay68 (Scalar.sitofp .f32 (Scalar.maxsi n 1#32)) (Scalar.cmpi .eq n 0#32) k0_pay58 x0 x1 x2 x3 = castMean n x0 x1 x2 x3 := rfl
theorem pay62_eq (n : BitVec 32) (x0 x1 x2 x3 : Vec F S1x1x16 .f32) :
    k0_pay62 (Scalar.sitofp .f32 (Scalar.maxsi n 1#32)) (Scalar.cmpi .eq n 0#32) k0_pay58 (k0_pay61 x0 x1) x2 x3 = castMean n x0 x1 x2 x3 := rfl
theorem pay66_eq (n : BitVec 32) (x0 x1 x2 x3 : Vec F S1x1x16 .f32) :
    k0_pay66 (Scalar.sitofp .f32 (Scalar.maxsi n 1#32)) (Scalar.cmpi .eq n 0#32) k0_pay58 (k0_pay65 x0 x1) x2 x3 = castMean n x0 x1 x2 x3 := rfl
theorem pay78_eq (n : BitVec 32) (x0 x1 x2 x3 : Vec F S1x1x16 .f32) :
    k0_pay78 (Scalar.sitofp .f32 (Scalar.maxsi n 1#32)) (Scalar.cmpi .eq n 0#32) k0_pay72 x0 x1 x2 x3 = castMean n x0 x1 x2 x3 := rfl
theorem pay83_eq (n : BitVec 32) (x0 x1 x2 x3 : Vec F S1x1x16 .f32) :
    k0_pay83 (Scalar.sitofp .f32 (Scalar.maxsi n 1#32)) (Scalar.cmpi .eq n 0#32) k0_pay72 x0 x1 x2 x3 = castMean n x0 x1 x2 x3 := rfl
theorem pay75_eq (n : BitVec 32) (x0 x1 x2 x3 : Vec F S1x1x16 .f32) :
    k0_pay75 (Scalar.sitofp .f32 (Scalar.maxsi n 1#32)) (Scalar.cmpi .eq n 0#32) k0_pay72 (k0_pay74 x0) x1 x2 x3 = castMean n x0 x1 x2 x3 := rfl
theorem pay80_eq (n : BitVec 32) (x0 x1 x2 x3 : Vec F S1x1x16 .f32) :
    k0_pay80 (Scalar.sitofp .f32 (Scalar.maxsi n 1#32)) (Scalar.cmpi .eq n 0#32) k0_pay72 (k0_pay79 x0) x1 x2 x3 = castMean n x0 x1 x2 x3 := rfl
theorem pay85_eq (n : BitVec 32) (x0 x1 x2 x3 : Vec F S1x1x16 .f32) :
    k0_pay85 (Scalar.sitofp .f32 (Scalar.maxsi n 1#32)) (Scalar.cmpi .eq n 0#32) k0_pay72 (k0_pay84 x0) x1 x2 x3 = castMean n x0 x1 x2 x3 := rfl
theorem pay77_eq (n : BitVec 32) (x0 x1 x2 x3 : Vec F S1x1x16 .f32) :
    k0_pay77 (Scalar.sitofp .f32 (Scalar.maxsi n 1#32)) (Scalar.cmpi .eq n 0#32) k0_pay72 (k0_pay76 x0 x1 x2) x3 = castMean n x0 x1 x2 x3 := rfl
theorem pay82_eq (n : BitVec 32) (x0 x1 x2 x3 : Vec F S1x1x16 .f32) :
    k0_pay82 (Scalar.sitofp .f32 (Scalar.maxsi n 1#32)) (Scalar.cmpi .eq n 0#32) k0_pay72 (k0_pay81 x0 x1 x2) x3 = castMean n x0 x1 x2 x3 := rfl
theorem pay59_eq (v50 v71 : BitVec 32) (v64 v65 v87 : IVec S16 32) (x0 x1 x2 x3 : Vec F S1x1x16 .f32) :
    k0_pay59 v50 v64 v65 v71 v87 x0 x1 x2 x3
      = castMean (extractAt ![15] (scan .sum (select (cmpi .eq v64 (broadcast S16 (Scalar.addi v71 (Scalar.addi v50 0#32)))) v87 v65)) inpos_S16_p15) x0 x1 x2 x3 := rfl
theorem pay73_eq (v307 : IVec S16 32) (x0 x1 x2 x3 : Vec F S1x1x16 .f32) :
    k0_pay73 v307 x0 x1 x2 x3 = castMean (extractAt ![15] (scan .sum v307) inpos_S16_p15) x0 x1 x2 x3 := rfl

/-- A load of a cell row, of contents given by their three indices. -/
theorem cell_load (g : Nat → Nat → Nat → F .f32) {s w c : Nat} {off : Fin 3 → Nat} (hoff : off = ![s, w, c])
    (inb : ∀ a, off a + S1x1x16.size a ≤ S4x2x128.size a) (l : S16.Idx) :
    shapeCast S16 ((Memref.whole cc0_scratch3 : Memref sig .scVector .vmem S4x2x128 .f32).view.readAt (Elt F)
      (Rect.unit (s := S4x2x128) off S1x1x16.size inb).toLoadRect (fun y : S4x2x128.Idx => g (y 0).val (y 1).val (y 2).val)) shapeCasts_S1x1x16_S16 l
      = g s w (c + (l 0).val) := by
  subst hoff
  refine (castCell_apply _ l).trans ?_
  show g (s + 1 * 0) (w + 1 * 0) (c + 1 * (l 0).val) = g s w (c + (l 0).val)
  simp only [Nat.one_mul, Nat.mul_zero, Nat.add_zero]

/-- What is loaded of the four quarters' sums: quarter `s`, the tile's patch `w`, column block `j`. -/
theorem part_load (X : S8x2048x128.Idx → F .f32) (Ln : S64.Idx → BitVec 32) (b q : Nat) {s w j : Nat} {off : Fin 3 → Nat} (hoff : off = ![s, w, 16 * j])
    (inb : ∀ a, off a + S1x1x16.size a ≤ S4x2x128.size a) :
    shapeCast S16 ((Memref.whole cc0_scratch3 : Memref sig .scVector .vmem S4x2x128 .f32).view.readAt (Elt F)
      (Rect.unit (s := S4x2x128) off S1x1x16.size inb).toLoadRect (parts X Ln b q)) shapeCasts_S1x1x16_S16 = partVec X Ln b s (2 * q + w) j :=
  funext fun l => cell_load (fun s w c => part X Ln b s (2 * q + w) c) hoff inb l

/-- A vector of means with the right count and the right sums is a column block of the means. -/
theorem chunk_of (X : S8x2048x128.Idx → F .f32) (Ln : S64.Idx → BitVec 32) (b p j : Nat) {n : BitVec 32} {a0 a1 a2 a3 : FVec F S16 .f32}
    (hn : n = cntV Ln b (patch b p)) (h0 : a0 = partVec X Ln b 0 p j) (h1 : a1 = partVec X Ln b 1 p j) (h2 : a2 = partVec X Ln b 2 p j)
    (h3 : a3 = partVec X Ln b 3 p j) : meanVec n a0 a1 a2 a3 = meanChunk X Ln b p j := by
  subst hn h0 h1 h2 h3; rfl

/-- The count the kernel picks for its patch `w`. -/
theorem cnt_pick (Ln : S64.Idx → BitVec 32) {b q w : Nat} (hb : b < 8) (hp : 2 * q + w < 8) :
    extractAt ![15] (scan .sum (select (cmpi .eq lanes (broadcast S16 (Scalar.addi (BitVec.ofNat 32 (skip b))
      (Scalar.addi (BitVec.ofNat 32 (2 * q)) (BitVec.ofNat 32 w))))) (cntV Ln b) k0_pay31)) inpos_S16_p15 = cntV Ln b (patch b (2 * q + w)) := by
  have h : Scalar.addi (BitVec.ofNat 32 (skip b)) (Scalar.addi (BitVec.ofNat 32 (2 * q)) (BitVec.ofNat 32 w)) = BitVec.ofNat 32 (skip b + (2 * q + w)) := by
    simp only [Scalar.addi, IntOp.addi, BitVec.ofNat_add]
  rw [h, pay31_eq, pick_patch _ hb hp]

/-- The store of a column block of a row. -/
theorem piece_of {t : Nat} (ht : t < 2) (j : Nat) (hj : j < 8) {off : Fin 2 → Nat} (hoff : off = ![t, 16 * j])
    (inb : ∀ a, off a + S1x16.size a ≤ S2x128.size a) {w w' : FVec F S16 .f32} (hw : w = w') :
    (⟨Rect.unit off S1x16.size inb, shapeCast S1x16 w shapeCasts_S16_S1x16⟩ : View.Piece (Elt F) S2x128 .f32) = rowPiece ht j hj w' := by
  subst hw; exact rowPiece_eq ht hj hoff inb w

theorem cast_flat (h : (⟨1, ![128]⟩ : Shape).numel = (⟨2, ![1, 128]⟩ : Shape).numel) (k : Fin 128) : Shape.reshapeEquiv h (ix1 k) = ix2 (0 : Fin 1) k :=
  Shape.reshapeEquiv_eq_of_rowMajor _ (by
    rw [Shape.rowMajor_val_two, Shape.rowMajor_val_one]
    show 0 * 128 + k.val = k.val
    omega)

/-- A row of the means' buffer, read at a column. -/
theorem read_fin {w : Nat} (inb : ∀ a, (![w, 0] : Fin 2 → Nat) a + S1x128.size a ≤ S2x128.size a) (g : S2x128.Idx → F .f32) (hw : w < 2) (y : S128.Idx) :
    (((Memref.whole cc0_scratch4 : Memref sig .scVector .vmem S2x128 .f32).slice (Rect.unit (s := S2x128) ![w, 0] S1x128.size inb) (fun _ => rfl)).squeeze
      S128 squeezes_S1x128_S128).view.read (Elt F) g y = g (ix2 ⟨w, hw⟩ (y 0 : Fin 128)) := by
  have hc : Shape.reshapeEquiv squeezes_S1x128_S128.numel_eq y = ix2 (0 : Fin 1) (y 0 : Fin 128) := by
    conv_lhs => rw [eq_ix1 y]
    exact cast_flat _ _
  show g ((Rect.unit (s := S2x128) ![w, 0] S1x128.size inb).emb (Shape.reshapeEquiv squeezes_S1x128_S128.numel_eq y)) = _
  rw [hc]
  refine congrArg g (funext fun a => Fin.ext ?_)
  match a with
  | 0 => show w + 1 * 0 = w; omega
  | 1 => show 0 + 1 * (y 0).val = (y 0).val; omega

/-- The row just written, read back: the means of its patch. -/
theorem read_means (X : S8x2048x128.Idx → F .f32) (Ln : S64.Idx → BitVec 32) (b p : Nat) {w : Nat} (hw : w < 2)
    (inb : ∀ a, (![w, 0] : Fin 2 → Nat) a + S1x128.size a ≤ S2x128.size a) (f : S2x128.Idx → F .f32) (y : S128.Idx) :
    (ReadAs.same (e := .f32)).apply ((((Memref.whole cc0_scratch4 : Memref sig .scVector .vmem S2x128 .f32).slice (Rect.unit (s := S2x128) ![w, 0] S1x128.size inb) (fun _ => rfl)).squeeze
      S128 squeezes_S1x128_S128).view.read (Elt F) ((Memref.whole cc0_scratch4 : Memref sig .scVector .vmem S2x128 .f32).view.writes (Elt F) f
        (rowPieces (n := 2) hw (meanChunk X Ln b p)))) y = meanAt X Ln b p (y 0).val := by
  show ((((Memref.whole cc0_scratch4 : Memref sig .scVector .vmem S2x128 .f32).slice (Rect.unit (s := S2x128) ![w, 0] S1x128.size inb) (fun _ => rfl)).squeeze
      S128 squeezes_S1x128_S128).view.read (Elt F) ((Memref.whole cc0_scratch4 : Memref sig .scVector .vmem S2x128 .f32).view.writes (Elt F) f
        (rowPieces (n := 2) hw (meanChunk X Ln b p)))) y = _
  rw [read_fin inb _ hw y]
  refine (read_rowPieces (n := 2) (Memref.whole cc0_scratch4 : Memref sig .scVector .vmem S2x128 .f32).view f hw (meanChunk X Ln b p) (meanAt X Ln b p)
    (fun j _ k => meanChunk_lane X Ln b p j k) (ix2 ⟨w, hw⟩ (y 0 : Fin 128))).trans ?_
  exact if_pos rfl

end Cert.Proof.Pool
-- ==== Proof.Tail.lean ====
/-
  The end of a tile's work: from the four quarters' sums of its two patches to the two rows of the result.
-/
module

public import proofs.«01_k».proof.Proof.Means

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The rows of the means' buffer -/

section
variable (d : Dev nD) (i : grid0.Coords)

/-- The tile's two rows of means. -/
abbrev finM0 : Memref sig .scVector .vmem S128 .f32 :=
  ((Memref.whole cc0_scratch4).slice (Rect.unit (s := S2x128) ![0, 0] S1x128.size inb_S2x128_S1x128_0_0) (fun _ => rfl)).squeeze S128 squeezes_S1x128_S128
abbrev finM1 : Memref sig .scVector .vmem S128 .f32 :=
  ((Memref.whole cc0_scratch4).slice (Rect.unit (s := S2x128) ![1, 0] S1x128.size inb_S2x128_S1x128_1_0) (fun _ => rfl)).squeeze S128 squeezes_S1x128_S128

/-- A row of the means' buffer. -/
def finRow (w : Nat) : Finset S2x128.Idx := Finset.univ.filter fun j => (j 0).val = w

theorem set_fin (w : Nat) (inb : ∀ a, (![w, 0] : Fin 2 → Nat) a + S1x128.size a ≤ S2x128.size a) :
    (((Memref.whole cc0_scratch4 : Memref sig .scVector .vmem S2x128 .f32).slice (Rect.unit (s := S2x128) ![w, 0] S1x128.size inb) (fun _ => rfl)).squeeze
      S128 squeezes_S1x128_S128).view.set = finRow w := by
  show (((Memref.whole cc0_scratch4 : Memref sig .scVector .vmem S2x128 .f32).view.slice (Rect.unit (s := S2x128) ![w, 0] S1x128.size inb)).reshape
    S128 squeezes_S1x128_S128.numel_eq).set = _
  rw [View.set_reshape]
  refine (View.set_slice_whole (cc0_scratch4 : Ref sig .scVector) (Rect.unit (s := S2x128) ![w, 0] S1x128.size inb)).trans ?_
  ext j
  rw [Rect.mem_set_unit (inb := inb)]
  have h1 : (j 1).val < 128 := (j 1).isLt
  constructor
  · intro h
    have h0 := h 0
    change w ≤ (j 0).val ∧ (j 0).val < w + 1 at h0
    exact Finset.mem_filter.mpr ⟨Finset.mem_univ _, by omega⟩
  · intro h
    have h0 := (Finset.mem_filter.mp h).2
    intro a
    match a with
    | ⟨0, _⟩ => exact ⟨show w ≤ (j 0).val by omega, show (j 0).val < w + 1 by omega⟩
    | ⟨1, _⟩ => exact ⟨Nat.zero_le _, show (j 1).val < 0 + 128 by omega⟩

/-- A store to the second row stays off the first. -/
theorem store_off {c : Nat} {off : Fin 2 → Nat} (hoff : off = ![1, c]) (inb : ∀ x, off x + S1x16.size x ≤ S2x128.size x) :
    ((Memref.whole cc0_scratch4 : Memref sig .scVector .vmem S2x128 .f32).access (Rect.unit (s := S2x128) off S1x16.size inb)).set
      ⊆ Finset.univ \ finM0.view.set := by
  subst hoff
  rw [set_fin]
  intro j hj
  have hj' : j ∈ ((View.whole (cc0_scratch4 : Ref sig .scVector)).slice (Rect.unit (s := S2x128) ![1, c] S1x16.size inb)).set := hj
  rw [View.set_slice_whole] at hj'
  have h0 := (Rect.mem_set_unit (inb := inb)).mp hj' 0
  change 1 ≤ (j 0).val ∧ _ at h0
  refine Finset.mem_sdiff.mpr ⟨Finset.mem_univ _, fun h => ?_⟩
  have := (Finset.mem_filter.mp h).2
  omega

/-- A load from it too. -/
theorem load_off {c : Nat} {off : Fin 2 → Nat} (hoff : off = ![1, c]) (inb : ∀ x, off x + S1x16.size x ≤ S2x128.size x) :
    (Memref.whole cc0_scratch4 : Memref sig .scVector .vmem S2x128 .f32).view.setOn
      (Rect.unit (s := S2x128) off S1x16.size inb).toLoadRect.set ⊆ Finset.univ \ finM0.view.set := by
  subst hoff
  rw [set_fin]
  intro j hj
  obtain ⟨x, hx, rfl⟩ := Finset.mem_map.mp hj
  have h0 := Rect.mem_set_unit.mp hx 0
  have h1 : 1 ≤ (x 0).val := h0.1
  refine Finset.mem_sdiff.mpr ⟨Finset.mem_univ _, fun h => ?_⟩
  have : (x 0).val = 0 := (Finset.mem_filter.mp h).2
  omega

/-- What is left of the means' buffer while the first row is under way. -/
abbrev restPts (d : Dev nD) (i : grid0.Coords) (f : S2x128.Idx → F .f32) (L : List (View.Piece (Elt F) S2x128 .f32)) : sProp 𝕄 :=
  iprop((Memref.whole cc0_scratch4 : Memref sig .scVector .vmem S2x128 .f32).view.loc (V d (cV i) (jV i)) ↦[Finset.univ \ finM0.view.set]{fullShare}
    (Memref.whole cc0_scratch4 : Memref sig .scVector .vmem S2x128 .f32).view.writes (Elt F) f L)

/-- A column block of the second row is stored while the first row is under way. -/
theorem store_rest {α : Type} {k : Prog (TpuEff nD τ sig (Elt F) Λ₀ (V d (cV i) (jV i)).2) α} {Q : α → sProp 𝕄} {c : Nat} {off : Fin 2 → Nat}
    (hoff : off = ![1, c]) {inb : ∀ x, off x + S1x16.size x ≤ S2x128.size x} {f : S2x128.Idx → F .f32}
    {L : List (View.Piece (Elt F) S2x128 .f32)} {w : Vec F S1x16 .f32} {hl hx hm} :
    restPts d i f L ⊢ iprop((restPts d i f (⟨Rect.unit off S1x16.size inb, w⟩ :: L)
        -∗ wp frame (wpE (defs₀ (F := F)) 𝒱₀ (V d (cV i) (jV i)) none) Set.univ k Q)
      -∗ wp frame (wpE (defs₀ (F := F)) 𝒱₀ (V d (cV i) (jV i)) none) Set.univ
          (do
            let _ ← Prog.lift (.load (Memref.whole cc0_scratch4) (Rect.unit (s := S2x128) off S1x16.size inb).toLoadRect hl)
            Prog.lift (.store (Memref.whole cc0_scratch4) (Rect.unit (s := S2x128) off S1x16.size inb) w Finset.univ hx hm)
            k) Q) := by
  iintro H Hk
  iapply (wp_load 𝒱₀ (V d (cV i) (jV i)) none Set.univ (load_off hoff inb)) $$ H; iintro H
  iapply (wp_store_writes 𝒱₀ (V d (cV i) (jV i)) none Set.univ (store_off hoff inb)) $$ H; iintro H
  iapply Hk $$ H

variable (m : (ℓ : Loc nD τ sig) → Buf (Elt F) ℓ)

set_option maxHeartbeats 800000 in
/-- The end of the tile's work: it takes in the four quarters' sums of its two patches, and its two rows of the result
    come to hold their means. -/
theorem tail_run (f9 : S2x128.Idx → F .f32) (fo fo' : S8x8x128.Idx → F .f32) (fsh : S16x8x128.Idx → F .f32)
    (O : CellTallies nD τ sig (HIx 1)) (W : Waits sig (HIx 1)) (Q : PUnit → sProp 𝕄) :
    iprop(Transfers.Flight countersEmb (V d (cV i) (jV i)) (SemLoc.dma cc0_scoped1.sem) (default : HIx 1) 32768
        iprop(((Memref.whole cc0_scratch3 : Memref sig .scVector .vmem S4x2x128 .f32).view.loc (V d (cV i) (jV i)) ↦{fullShare} parts (rows m d) (lens m d) (bat i) (qtr i))
          ∗ ((shReadM i).view.loc (V d (cV i) (jV i)) ↦[(shReadM i).view.set]{fullShare} fsh))
      ∗ ((Memref.whole cc0_scratch4 : Memref sig .scVector .vmem S2x128 .f32).view.loc (V d (cV i) (jV i)) ↦{fullShare} f9)
      ∗ ((outM i 0).view.loc (V d (cV i) (jV i)) ↦[(outM i 0).view.set]{fullShare} fo)
      ∗ ((outM i 1).view.loc (V d (cV i) (jV i)) ↦[(outM i 1).view.set]{fullShare} fo')
      ∗ semVal (V d (cV i) (jV i), SemLoc.dma cc0_scratch9.sem) 0
      ∗ owes (V d (cV i) (jV i)) O W ∗ Transfers.MayWaits (V d (cV i) (jV i)) (default : HIx 1) O
      ∗ (iprop(((Memref.whole cc0_scratch3 : Memref sig .scVector .vmem S4x2x128 .f32).view.loc (V d (cV i) (jV i)) ↦{fullShare} parts (rows m d) (lens m d) (bat i) (qtr i))
          ∗ ((shReadM i).view.loc (V d (cV i) (jV i)) ↦[(shReadM i).view.set]{fullShare} fsh)
          ∗ (∃ g, (Memref.whole cc0_scratch4 : Memref sig .scVector .vmem S2x128 .f32).view.loc (V d (cV i) (jV i)) ↦{fullShare} g)
          ∗ ((outM i 0).view.loc (V d (cV i) (jV i)) ↦[(outM i 0).view.set]{fullShare} outVal m d)
          ∗ ((outM i 1).view.loc (V d (cV i) (jV i)) ↦[(outM i 1).view.set]{fullShare} outVal m d)
          ∗ semVal (V d (cV i) (jV i), SemLoc.dma cc0_scratch9.sem) 0 ∗ semVal (V d (cV i) (jV i), SemLoc.dma cc0_scoped1.sem) 0
          ∗ ∃ W', ⌜∀ p ∈ W', p ∈ W ∨ p.2 = none⌝ ∗ owes (V d (cV i) (jV i)) O W') -∗ Q ⟨⟩))
      ⊢ (wp frame (wpE (defs₀ (F := F)) 𝒱₀ (V d (cV i) (jV i)) none) Set.univ
          (tailP i (BitVec.ofNat 32 (2 * qtr i)) lanes k0_pay31 (BitVec.ofNat 32 (skip (bat i))) (cntV (lens m d) (bat i))) Q : sProp 𝕄) := by
  have hb := bat_lt i
  have hq := qtr_lt i
  have _plan : Transfers.BatchOf (V d (cV i) (jV i)) (SemLoc.dma (sig := sig) cc0_scratch9.sem) 2 := trivial
  unfold tailP
  iintro ⟨S5, H9, Ho, Ho', S3, HO, #Hmw, HQ⟩
  sl_exec
  iapply (store_rest d i rfl) $$ H9; iintro H9
  sl_exec
  have n0 := cnt_pick (lens m d) (q := qtr i) (w := 0) hb (by omega)
  have n1 := cnt_pick (lens m d) (q := qtr i) (w := 1) hb (by omega)
  have e0 : tail_run.sl.H9_8 d i m = rowPieces (n := 2) (t := 0) (by decide) (meanChunk (rows m d) (lens m d) (bat i) (2 * qtr i + 0)) := by
    unfold tail_run.sl.H9_8 rowPieces
    refine congrArg₂ List.cons (piece_of _ 7 _ rfl _ ?_) ?_
    · refine (pay68_eq _ _ _ _ _).trans (chunk_of (rows m d) (lens m d) (bat i) (2 * qtr i + 0) 7 ?_ ?_ ?_ ?_ ?_)
      · exact n0
      all_goals exact part_load (rows m d) (lens m d) (bat i) (qtr i) (w := 0) (j := 7) rfl _
    refine congrArg₂ List.cons (piece_of _ 6 _ rfl _ ?_) ?_
    · refine (pay67_eq _ _ _ _ _).trans (chunk_of (rows m d) (lens m d) (bat i) (2 * qtr i + 0) 6 ?_ ?_ ?_ ?_ ?_)
      · exact n0
      all_goals exact part_load (rows m d) (lens m d) (bat i) (qtr i) (w := 0) (j := 6) rfl _
    refine congrArg₂ List.cons (piece_of _ 5 _ rfl _ ?_) ?_
    · refine (pay66_eq _ _ _ _ _).trans (chunk_of (rows m d) (lens m d) (bat i) (2 * qtr i + 0) 5 ?_ ?_ ?_ ?_ ?_)
      · exact n0
      all_goals exact part_load (rows m d) (lens m d) (bat i) (qtr i) (w := 0) (j := 5) rfl _
    refine congrArg₂ List.cons (piece_of _ 4 _ rfl _ ?_) ?_
    · refine (pay64_eq _ _ _ _ _).trans (chunk_of (rows m d) (lens m d) (bat i) (2 * qtr i + 0) 4 ?_ ?_ ?_ ?_ ?_)
      · exact n0
      all_goals exact part_load (rows m d) (lens m d) (bat i) (qtr i) (w := 0) (j := 4) rfl _
    refine congrArg₂ List.cons (piece_of _ 3 _ rfl _ ?_) ?_
    · refine (pay63_eq _ _ _ _ _).trans (chunk_of (rows m d) (lens m d) (bat i) (2 * qtr i + 0) 3 ?_ ?_ ?_ ?_ ?_)
      · exact n0
      all_goals exact part_load (rows m d) (lens m d) (bat i) (qtr i) (w := 0) (j := 3) rfl _
    refine congrArg₂ List.cons (piece_of _ 2 _ rfl _ ?_) ?_
    · refine (pay62_eq _ _ _ _ _).trans (chunk_of (rows m d) (lens m d) (bat i) (2 * qtr i + 0) 2 ?_ ?_ ?_ ?_ ?_)
      · exact n0
      all_goals exact part_load (rows m d) (lens m d) (bat i) (qtr i) (w := 0) (j := 2) rfl _
    refine congrArg₂ List.cons (piece_of _ 1 _ rfl _ ?_) ?_
    · refine (pay60_eq _ _ _ _ _).trans (chunk_of (rows m d) (lens m d) (bat i) (2 * qtr i + 0) 1 ?_ ?_ ?_ ?_ ?_)
      · exact n0
      all_goals exact part_load (rows m d) (lens m d) (bat i) (qtr i) (w := 0) (j := 1) rfl _
    refine congrArg₂ List.cons (piece_of _ 0 _ rfl _ ?_) ?_
    · refine (pay59_eq _ _ _ _ _ _ _ _ _).trans (chunk_of (rows m d) (lens m d) (bat i) (2 * qtr i + 0) 0 ?_ ?_ ?_ ?_ ?_)
      · exact n0
      all_goals exact part_load (rows m d) (lens m d) (bat i) (qtr i) (w := 0) (j := 0) rfl _
    rfl
  have e1 : tail_run.sl.H9_16 d i m = rowPieces (n := 2) (t := 1) (by decide) (meanChunk (rows m d) (lens m d) (bat i) (2 * qtr i + 1)) ++ tail_run.sl.H9_8 d i m := by
    unfold tail_run.sl.H9_16 rowPieces
    refine congrArg₂ List.cons (piece_of _ 7 _ rfl _ ?_) ?_
    · refine (pay85_eq _ _ _ _ _).trans (chunk_of (rows m d) (lens m d) (bat i) (2 * qtr i + 1) 7 ?_ ?_ ?_ ?_ ?_)
      · exact n1
      all_goals exact part_load (rows m d) (lens m d) (bat i) (qtr i) (w := 1) (j := 7) rfl _
    refine congrArg₂ List.cons (piece_of _ 6 _ rfl _ ?_) ?_
    · refine (pay83_eq _ _ _ _ _).trans (chunk_of (rows m d) (lens m d) (bat i) (2 * qtr i + 1) 6 ?_ ?_ ?_ ?_ ?_)
      · exact n1
      all_goals exact part_load (rows m d) (lens m d) (bat i) (qtr i) (w := 1) (j := 6) rfl _
    refine congrArg₂ List.cons (piece_of _ 5 _ rfl _ ?_) ?_
    · refine (pay82_eq _ _ _ _ _).trans (chunk_of (rows m d) (lens m d) (bat i) (2 * qtr i + 1) 5 ?_ ?_ ?_ ?_ ?_)
      · exact n1
      all_goals exact part_load (rows m d) (lens m d) (bat i) (qtr i) (w := 1) (j := 5) rfl _
    refine congrArg₂ List.cons (piece_of _ 4 _ rfl _ ?_) ?_
    · refine (pay80_eq _ _ _ _ _).trans (chunk_of (rows m d) (lens m d) (bat i) (2 * qtr i + 1) 4 ?_ ?_ ?_ ?_ ?_)
      · exact n1
      all_goals exact part_load (rows m d) (lens m d) (bat i) (qtr i) (w := 1) (j := 4) rfl _
    refine congrArg₂ List.cons (piece_of _ 3 _ rfl _ ?_) ?_
    · refine (pay78_eq _ _ _ _ _).trans (chunk_of (rows m d) (lens m d) (bat i) (2 * qtr i + 1) 3 ?_ ?_ ?_ ?_ ?_)
      · exact n1
      all_goals exact part_load (rows m d) (lens m d) (bat i) (qtr i) (w := 1) (j := 3) rfl _
    refine congrArg₂ List.cons (piece_of _ 2 _ rfl _ ?_) ?_
    · refine (pay77_eq _ _ _ _ _).trans (chunk_of (rows m d) (lens m d) (bat i) (2 * qtr i + 1) 2 ?_ ?_ ?_ ?_ ?_)
      · exact n1
      all_goals exact part_load (rows m d) (lens m d) (bat i) (qtr i) (w := 1) (j := 2) rfl _
    refine congrArg₂ List.cons (piece_of _ 1 _ rfl _ ?_) ?_
    · refine (pay75_eq _ _ _ _ _).trans (chunk_of (rows m d) (lens m d) (bat i) (2 * qtr i + 1) 1 ?_ ?_ ?_ ?_ ?_)
      · exact n1
      all_goals exact part_load (rows m d) (lens m d) (bat i) (qtr i) (w := 1) (j := 1) rfl _
    refine congrArg₂ List.cons (piece_of _ 0 _ rfl _ ?_) ?_
    · refine (pay73_eq _ _ _ _ _).trans (chunk_of (rows m d) (lens m d) (bat i) (2 * qtr i + 1) 0 ?_ ?_ ?_ ?_ ?_)
      · exact n1
      all_goals exact part_load (rows m d) (lens m d) (bat i) (qtr i) (w := 1) (j := 0) rfl _
    rfl
  have w0 : ∀ y : S128.Idx, tail_run.sl.dma48 d i m f9 y = meanAt (rows m d) (lens m d) (bat i) (2 * qtr i + (0 : Fin 2).val) (y 0).val := by
    intro y
    unfold tail_run.sl.dma48
    rw [e0]
    exact read_means (rows m d) (lens m d) (bat i) (2 * qtr i + 0) (w := 0) _ _ f9 y
  have w1 : ∀ y : S128.Idx, tail_run.sl.dma42 d i m f9 y = meanAt (rows m d) (lens m d) (bat i) (2 * qtr i + (1 : Fin 2).val) (y 0).val := by
    intro y
    unfold tail_run.sl.dma42
    rw [e1, View.writes_append]
    exact read_means (rows m d) (lens m d) (bat i) (2 * qtr i + 1) (w := 1) _ _ _ y
  ihave Ho := (Entails.of_eq (pointsTo_congr (q := fullShare) (out_landed i m d 0 fo (tail_run.sl.dma48 d i m f9) w0))) $$ Ho
  ihave Ho' := (Entails.of_eq (pointsTo_congr (q := fullShare) (out_landed i m d 1 fo' (tail_run.sl.dma42 d i m f9) w1))) $$ Ho'
  sl_step
  iapply HQ
  isplitl [S5_dst]; · iexact S5_dst
  isplitl [S5_src]; · iexact S5_src
  isplitl [H9]; · iexists _; iexact H9
  isplitl [Ho]; · iexact Ho
  isplitl [Ho']; · iexact Ho'
  isplitl [S3]; · iexact S3
  isplitl [S5]; · iexact S5
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end

end Cert.Proof.Pool
-- ==== Proof.Body.lean ====
/-
  One tile's run, whole: copies in, sums, the meeting of the tiles, means, copies out.
-/
module

public import proofs.«01_k».proof.Proof.Tail

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section
variable (d : Dev nD) (i : grid0.Coords)

/-- The words of the task's part: where its quarter starts, its first patch, the lane of the batch's first patch. -/
theorem word_quarter (i : grid0.Coords) : Scalar.muli (Scalar.select 0#1 (BitVec.ofNat 32 (qtr i + 4)) (BitVec.ofNat 32 (qtr i))) 512#32 = BitVec.ofNat 32 (512 * qtr i) := by
  revert i; decide +kernel

theorem word_patch (i : grid0.Coords) :
    Scalar.muli 2#32 (Scalar.select (Scalar.andi (Scalar.xori (Scalar.cmpi .slt (Scalar.remsi (BitVec.ofNat 32 (i 1).val)
      (Scalar.select (Scalar.cmpi .eq 4#32 0#32) 1#32 4#32)) 0#32) (Scalar.cmpi .slt (Scalar.select (Scalar.cmpi .eq 4#32 0#32) 1#32 4#32) 0#32))
      (Scalar.cmpi .ne (Scalar.remsi (BitVec.ofNat 32 (i 1).val) (Scalar.select (Scalar.cmpi .eq 4#32 0#32) 1#32 4#32)) 0#32))
      (Scalar.addi (Scalar.remsi (BitVec.ofNat 32 (i 1).val) (Scalar.select (Scalar.cmpi .eq 4#32 0#32) 1#32 4#32)) (Scalar.select (Scalar.cmpi .eq 4#32 0#32) 1#32 4#32))
      (Scalar.remsi (BitVec.ofNat 32 (i 1).val) (Scalar.select (Scalar.cmpi .eq 4#32 0#32) 1#32 4#32)))
      = BitVec.ofNat 32 (2 * qtr i) := by
  revert i; decide +kernel

theorem word_skip (i : grid0.Coords) : Scalar.subi (Scalar.muli 8#32 (BitVec.ofNat 32 (bat i))) (Scalar.minsi (Scalar.muli 8#32 (BitVec.ofNat 32 (bat i))) 48#32)
    = BitVec.ofNat 32 (skip (bat i)) := by
  revert i; decide +kernel

/-- The tile's copy semaphores. -/
abbrev dcell (d : Dev nD) (i : grid0.Coords) (s : DmaSem sig) : GSem nD τ sig := (V d (cV i) (jV i), .dma s)

theorem ownSems0_V :
    (ownSems0 (V d (cV i) (jV i)) : sProp 𝕄)
      = iprop(semVal (dcell d i cc0_scratch6.sem) 0 ∗ semVal (dcell d i cc0_scratch7.sem) 0 ∗ semVal (dcell d i cc0_scratch8.sem) 0
          ∗ semVal (dcell d i cc0_scratch9.sem) 0 ∗ semVal (dcell d i cc0_scoped0.sem) 0 ∗ semVal (dcell d i cc0_scoped1.sem) 0
          ∗ bigSep ((((((((ownCells (V d (cV i) (jV i))).erase (dcell d i cc0_scratch6.sem)).erase (dcell d i cc0_scratch7.sem)).erase
              (dcell d i cc0_scratch8.sem)).erase (dcell d i cc0_scratch9.sem)).erase (dcell d i cc0_scoped0.sem)).erase (dcell d i cc0_scoped1.sem)))
              fun g => semVal g 0) := by
  have mem : ∀ s : DmaSem sig, dcell d i s ∈ ownCells (V d (cV i) (jV i)) := fun s =>
    (mem_ownCells (g := dcell d i s)).mpr ⟨rfl, by show (SemLoc.dma s : SemLoc sig).isScoped .scVector = true; revert s; decide⟩
  have ne : ∀ {s s' : DmaSem sig}, s ≠ s' → dcell d i s ≠ dcell d i s' := fun h e => h (SemLoc.dma.inj (Prod.ext_iff.mp e).2)
  unfold SparseCore.Cfg.ownSems0
  rw [SparseCore.bigSep_erase' (mem cc0_scratch6.sem),
    SparseCore.bigSep_erase' (i := dcell d i cc0_scratch7.sem) (by simp only [Finset.mem_erase]; exact ⟨ne (by decide), mem _⟩),
    SparseCore.bigSep_erase' (i := dcell d i cc0_scratch8.sem) (by simp only [Finset.mem_erase]; exact ⟨ne (by decide), ne (by decide), mem _⟩),
    SparseCore.bigSep_erase' (i := dcell d i cc0_scratch9.sem) (by
      simp only [Finset.mem_erase]; exact ⟨ne (by decide), ne (by decide), ne (by decide), mem _⟩),
    SparseCore.bigSep_erase' (i := dcell d i cc0_scoped0.sem) (by
      simp only [Finset.mem_erase]; exact ⟨ne (by decide), ne (by decide), ne (by decide), ne (by decide), mem _⟩),
    SparseCore.bigSep_erase' (i := dcell d i cc0_scoped1.sem) (by
      simp only [Finset.mem_erase]; exact ⟨ne (by decide), ne (by decide), ne (by decide), ne (by decide), ne (by decide), mem _⟩)]

theorem ownBufs_V :
    (ownBufs (V d (cV i) (jV i)) : sProp 𝕄)
      = iprop((∃ f, (V d (cV i) (jV i)).loc cc0_scratch0 ↦{fullShare} f) ∗ (∃ f, (V d (cV i) (jV i)).loc cc0_scratch1 ↦{fullShare} f)
          ∗ (∃ f, (V d (cV i) (jV i)).loc cc0_scratch2 ↦{fullShare} f) ∗ (∃ f, (V d (cV i) (jV i)).loc cc0_scratch3 ↦{fullShare} f)
          ∗ (∃ f, (V d (cV i) (jV i)).loc cc0_scratch4 ↦{fullShare} f)
          ∗ bigSep ((((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2)).erase
              ((Proc.scVector (cV i) (jV i)).devRef cc0_scratch3)).erase ((Proc.scVector (cV i) (jV i)).devRef cc0_scratch4))
              fun b => iprop(∃ f, ((d, b) : Loc nD τ sig) ↦{fullShare} f)) := by
  have ne : ∀ {r r' : Ref sig .scVector}, r ≠ r' → (Proc.scVector (cV i) (jV i)).devRef r ≠ (Proc.scVector (cV i) (jV i)).devRef r' :=
    fun h e => h (Proc.devRef_injective _ e)
  unfold SparseCore.Cfg.ownBufs
  rw [SparseCore.bigSep_erase' (SparseCore.Cfg.mem_ownRefs_of_owner (p := Proc.scVector (cV i) (jV i)) (b := (Proc.scVector (cV i) (jV i)).devRef cc0_scratch0) rfl),
    SparseCore.bigSep_erase' (i := (Proc.scVector (cV i) (jV i)).devRef cc0_scratch1) (by
      simp only [Finset.mem_erase]; exact ⟨ne (by decide), SparseCore.Cfg.mem_ownRefs_of_owner rfl⟩),
    SparseCore.bigSep_erase' (i := (Proc.scVector (cV i) (jV i)).devRef cc0_scratch2) (by
      simp only [Finset.mem_erase]; exact ⟨ne (by decide), ne (by decide), SparseCore.Cfg.mem_ownRefs_of_owner rfl⟩),
    SparseCore.bigSep_erase' (i := (Proc.scVector (cV i) (jV i)).devRef cc0_scratch3) (by
      simp only [Finset.mem_erase]; exact ⟨ne (by decide), ne (by decide), ne (by decide), SparseCore.Cfg.mem_ownRefs_of_owner rfl⟩),
    SparseCore.bigSep_erase' (i := (Proc.scVector (cV i) (jV i)).devRef cc0_scratch4) (by
      simp only [Finset.mem_erase]; exact ⟨ne (by decide), ne (by decide), ne (by decide), ne (by decide), SparseCore.Cfg.mem_ownRefs_of_owner rfl⟩)]

/-- The lengths' buffer, filled with the sixteen lengths and read back. -/
theorem lens_back (Ln : S64.Idx → BitVec 32) (f5 : S16.Idx → BitVec 32) :
    (Memref.whole cc0_scratch0 : Memref sig .scVector .vmem S16 .i32).view.readAt (Elt F) (Rect.unit (s := S16) ![0] S16.size inb_S16_S16_0).toLoadRect
      ((Memref.whole cc0_scratch0 : Memref sig .scVector .vmem S16 .i32).view.write (Elt F) f5
        (((Memref.whole main_v0_scv : Memref sig .scVector .hbm S64 .i32).slice (Rect.unit (s := S64) (k0_off1 i) S16.size (k0_off1_inb i))
          (fun _ => rfl)).view.read (Elt F) Ln) Finset.univ) = win Ln (bat i) := by
  rw [View.write_whole_univ]
  have key : ∀ w : S16.Idx → BitVec 32, (Memref.whole cc0_scratch0 : Memref sig .scVector .vmem S16 .i32).view.readAt (Elt F)
      (Rect.unit (s := S16) ![0] S16.size inb_S16_S16_0).toLoadRect w = w := fun w => by
    funext y
    refine congrArg w (funext fun a => Fin.ext ?_)
    match a with
    | 0 => show 0 + 1 * (y 0).val = (y 0).val; omega
  exact (key _).trans (funext fun y => read_lens Ln (bat i) (off1_eq i) (k0_off1_inb i) y)

/-- A buffer whose rows are all at `new`, before and after the last of them. -/
theorem upTo_zero (new : Nat → Nat → F .f32) (old : S8x128.Idx → F .f32) : upTo (n := 8) 0 new old = old := funext fun _ => if_neg (Nat.not_lt_zero _)
theorem upTo_eight (new : Nat → Nat → F .f32) (old : S8x128.Idx → F .f32) : upTo (n := 8) 8 new old = fun y => new (y 0).val (y 1).val :=
  funext fun y => if_pos (y 0).isLt

variable (m : (ℓ : Loc nD τ sig) → Buf (Elt F) ℓ)

/-- The sums' buffer as a copy reads it. -/
theorem acc_read (g : S8x128.Idx → F .f32) :
    ReadAs.same.apply ((Memref.whole cc0_scratch2 : Memref sig .scVector .vmem S8x128 .f32).view.read (Elt F) g) = g := rfl

/-- The tile's row of the shared scratch, once the sums are copied there. -/
theorem row_done (f : S16x8x128.Idx → F .f32) (w : S8x128.Idx → F .f32)
    (h : ∀ y : S8x128.Idx, w y = part (rows m d) (lens m d) (bat i) (qtr i) (y 0).val (y 1).val) :
    ((shRowM i).view.loc (V d (cV i) (jV i)) ↦[(shRowM i).view.set]{fullShare} (shRowM i).view.writes (Elt F) f [⟨Rect.whole S8x128, w⟩] : sProp 𝕄)
      ⊢ shLoc d (cV i) ↦[shRow (jV i).val]{fullShare} shVal m d (cV i) := by
  rw [pointsTo_congr (q := fullShare) (row_landed i m d f w h), set_shRowM]
  exact BI.Entails.refl _

/-- The tile's finished row is what its arrivals hand over. -/
theorem pays_intro : (shLoc d (cV i) ↦[shRow (jV i).val]{fullShare} shVal m d (cV i) : sProp 𝕄)
    ⊢ bigSep Finset.univ fun j : Fin (grid0.bound 1) => (bRd m).payload (bcell d (cV i) (j.castLE hsub0)) 0 (jV i).val := by
  rw [shRow_pieces]
  exact BI.Entails.refl _

/-- What the tile collects at the barrier is what it reads of the finished rows. -/
theorem pays_elim : (bigSep ((bRd m).duties (bcell d (cV i) (jV i)) 0 \ ∅) fun n => (bRd m).payload (bcell d (cV i) (jV i)) 0 n)
    ⊢ (shLoc d (cV i) ↦[shRead (jV i).val]{fullShare} shVal m d (cV i) : sProp 𝕄) := by
  rw [Finset.sdiff_empty, bRd_duties₀, SparseCore.bigSep_image_of_injOn (Set.injOn_of_injective Fin.val_injective), shRead_pieces]
  exact BI.Entails.refl _

/-- A copy of the same element type takes what it reads as it is. -/
theorem same_read {κ : Kind} {sp : Space} {s : Shape} {e : EltTy} (v : View sig κ sp s e) (g : v.ty.Contents (Elt F)) :
    ReadAs.same.apply (v.read (Elt F) g) = v.read (Elt F) g := rfl

/-- A buffer a copy filled holds what the copy brought. -/
theorem land_parts (f w : S4x2x128.Idx → F .f32) :
    (Memref.whole cc0_scratch3 : Memref sig .scVector .vmem S4x2x128 .f32).view.write (Elt F) f w Finset.univ = w :=
  View.write_whole_univ _ _ _

/-- The tile's share of the result is its two rows. -/
theorem out_split (f : S8x8x128.Idx → F .f32) : (oLoc d ↦[outTile (cV i).val (jV i).val]{fullShare} f : sProp 𝕄)
    = iprop(((outM i 0).view.loc (V d (cV i) (jV i)) ↦[(outM i 0).view.set]{fullShare} f)
      ∗ ((outM i 1).view.loc (V d (cV i) (jV i)) ↦[(outM i 1).view.set]{fullShare} f)) := by
  rw [outTile_two, set_outM, set_outM]
  rfl

set_option maxHeartbeats 800000 in
/-- What tile `i` does: from its shares of the inputs and its rows of the shared scratch and of the result, it leaves its
    rows of the result at the means, and hands back what it reads of the shared scratch. -/
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV i) (jV i)
        ∗ (tilePts m d (cV i).val (jV i).val (m (oLoc d)) ∗ ∃ f, shLoc d (cV i) ↦[shRow (jV i).val]{fullShare} f)
        ∗ scopedBufs (V d (cV i) (jV i)) ∗ scopedSems0 (V d (cV i) (jV i)) ∗ owes (V d (cV i) (jV i)) (O + oxV d (cV i)) W)
      ⊢ wp frame (wpE (defs₀ (F := F)) 𝒱₀ (V d (cV i) (jV i)) none) Set.univ
          (cc0_k i (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1)
          fun _ => iprop(((tilePts m d (cV i).val (jV i).val (outVal m d) ∗ (shLoc d (cV i) ↦[shRead (jV i).val]{fullShare} shVal m d (cV i)))
              ∗ semVal (bcell d (cV i) (jV i)) 0)
            ∗ scopedBufs (V d (cV i) (jV i)) ∗ scopedSems0 (V d (cV i) (jV i))
            ∗ ∃ W', ⌜∀ p ∈ W', p ∈ W ∨ p.2 = none ∨ p.2 = some (0 : Fin 1)⌝ ∗ owes (V d (cV i) (jV i)) O W') := by
  have hb := bat_lt i
  rw [cc0_k_eq, (K (F := F)).scopedBufs_V hF d (cV i) (jV i), SparseCore.Cfg.scopedSems0_V (Val := Elt F) d (cV i) (jV i), ownSems0_V, ownBufs_V]
  unfold bkit
  iintro ⟨#Hlv, ⟨⟨%κ, #Hinv⟩, Htoks, #Hrch, Hat, Hcred⟩, ⟨⟨Hx, Hl, Ho⟩, %fsh, Hsh⟩, ⟨⟨%f5, H5⟩, ⟨%f6, H6⟩, ⟨%f7, H7⟩, ⟨%f8, H8⟩, ⟨%f9, H9⟩, Hbufs⟩,
    ⟨S0, S1, S2, S3, S4, S5, Hsems⟩, HO⟩
  have hO' : ∀ g, (O + oxV d (cV i)) g none = 0 := fun g => by rw [Pi.add_apply, Finsupp.add_apply, hO g, oxV_none]
  ihave Hmw1 := (show levAts (K (F := F)).L (K (F := F)).lev ⊢ Transfers.MayWaits (V d (cV i) (jV i)) (default : HIx 1) (O + oxV d (cV i)) from
    (K (F := F)).mayWaits_none (thr := V d (cV i) (jV i)) hO') $$ Hlv
  ihave Hmw2 := (show levAts (K (F := F)).L (K (F := F)).lev ⊢ Transfers.MayWaits (V d (cV i) (jV i)) (default : HIx 1) O from
    (K (F := F)).mayWaits_none (thr := V d (cV i) (jV i)) hO) $$ Hlv
  ihave Hx := (show (xLoc d ↦{tileShare (cV i).val (jV i).val} m (xLoc d) : sProp 𝕄) ⊢ ((Memref.whole main_arg0_scv : Memref sig .scVector .hbm S8x2048x128 .f32).view.loc (V d (cV i) (jV i))
    ↦{tileShare (cV i).val (jV i).val} rows m d : sProp 𝕄) from BI.Entails.refl _) $$ Hx
  ihave Hl := (show (lLoc d ↦{tileShare (cV i).val (jV i).val} lenVal m d : sProp 𝕄) ⊢ ((Memref.whole main_v0_scv : Memref sig .scVector .hbm S64 .i32).view.loc (V d (cV i) (jV i))
    ↦{tileShare (cV i).val (jV i).val} lens m d : sProp 𝕄) from BI.Entails.refl _) $$ Hl
  ihave H5 := (show ((V d (cV i) (jV i)).loc cc0_scratch0 ↦{fullShare} f5 : sProp 𝕄) ⊢ ((Memref.whole cc0_scratch0 : Memref sig .scVector .vmem S16 .i32).view.loc (V d (cV i) (jV i)) ↦{fullShare} f5 : sProp 𝕄)
    from BI.Entails.refl _) $$ H5
  ihave H6 := (show ((V d (cV i) (jV i)).loc cc0_scratch1 ↦{fullShare} f6 : sProp 𝕄) ⊢ (lowM.view.loc (V d (cV i) (jV i)) ↦[Finset.univ]{fullShare} f6 : sProp 𝕄) from BI.Entails.refl _) $$ H6
  ihave H6 := (Entails.of_eq (congrArg (fun I => (lowM.view.loc (V d (cV i) (jV i)) ↦[I]{fullShare} f6 : sProp 𝕄)) low_high_union.symm)) $$ H6
  ihave H6 := (pointsTo_union (ℓ := lowM.view.loc (V d (cV i) (jV i))) low_high_disjoint).1 $$ H6
  icases H6 with ⟨H6, H6'⟩
  ihave H6 := (Entails.of_eq (congrArg (fun I => (lowM.view.loc (V d (cV i) (jV i)) ↦[I]{fullShare} f6 : sProp 𝕄)) set_lowM.symm)) $$ H6
  ihave H6' := (show (lowM.view.loc (V d (cV i) (jV i)) ↦[highRows]{fullShare} f6 : sProp 𝕄) ⊢ (highM.view.loc (V d (cV i) (jV i)) ↦[highM.view.set]{fullShare} f6 : sProp 𝕄)
    from Entails.of_eq (congrArg (fun I => (highM.view.loc (V d (cV i) (jV i)) ↦[I]{fullShare} f6 : sProp 𝕄)) set_highM.symm)) $$ H6'
  ihave H7 := (show ((V d (cV i) (jV i)).loc cc0_scratch2 ↦{fullShare} f7 : sProp 𝕄) ⊢ accPts d i f7 from BI.Entails.refl _) $$ H7
  sl_exec
  have e39 : tile_body.sl.v39 i = BitVec.ofNat 32 (512 * qtr i) := word_quarter i
  have e50 : tile_body.sl.v50 i = BitVec.ofNat 32 (2 * qtr i) := word_patch i
  have e71 : tile_body.sl.v71 i = BitVec.ofNat 32 (skip (bat i)) := word_skip i
  have e64 : tile_body.sl.v64 = lanes := rfl
  have e67 := lens_back (F := F) i (lens m d) f5
  have e87 : tile_body.sl.v87 d i m f5 = cntV (lens m d) (bat i) := by
    refine Eq.trans ?_ (pay37_eq (F := F) (lens m d) (bat i))
    rw [← e67, ← e71]; rfl
  have e93 : tile_body.sl.v93 d i m f5 = loV (lens m d) (bat i) (qtr i) := by
    refine Eq.trans ?_ (pay38_eq (F := F) (lens m d) (bat i) (qtr i))
    rw [← e67, ← e71, ← e39]; rfl
  have e99 : tile_body.sl.v99 d i m f5 = hiV (lens m d) (bat i) (qtr i) := by
    refine Eq.trans ?_ (pay39_eq (lens m d) (bat i) (qtr i))
    rw [← e67, ← e71, ← e39]; rfl
  clear e67
  rw [e64, e71, e93, e99, e87, e50]
  ihave H6 := (Entails.of_eq (pointsTo_congr (q := fullShare) (low_landed (rows m d) (bat i) (qtr i) _ _
    (read_rows (rows m d) (bat i) (512 * qtr i) hb (by have := qtr_lt i; omega) (off2_eq i) (k0_off2_inb i))))) $$ H6
  ihave H6 := (show (lowM.view.loc (V d (cV i) (jV i)) ↦[lowM.view.set]{fullShare} bufVal (rows m d) (bat i) (qtr i) : sProp 𝕄)
    ⊢ bufPts d i (rows m d) (bat i) (qtr i) lowRows from
    Entails.of_eq (congrArg (fun I => (lowM.view.loc (V d (cV i) (jV i)) ↦[I]{fullShare} bufVal (rows m d) (bat i) (qtr i) : sProp 𝕄)) set_lowM)) $$ H6
  sl_for (fun (k : Nat) (_ : PUnit) => iprop(bufPts d i (rows m d) (bat i) (qtr i) lowRows
    ∗ accPts d i (upTo (n := 8) k (half (rows m d) (lens m d) (bat i) (qtr i)) f7))) $$ [H6 H7]
  case region =>
    intro k _
    exact t1_trip d i (rows m d) (bat i) (qtr i) hb _ _ (lens m d) k f7
  · isplitl [H6]; · iexact H6
    iexact H7
  iintro %_ ⟨H6, H7⟩
  rw [show Scf.trips k0_t1_loop.lb k0_t1_loop.ub k0_t1_loop.st = 8 by decide +kernel, upTo_eight]
  sl_exec
  ihave H6' := (Entails.of_eq (pointsTo_congr (q := fullShare) (high_landed (rows m d) (bat i) (qtr i) _ _
    (read_rows (rows m d) (bat i) (512 * qtr i + 256) hb (by have := qtr_lt i; omega) (off3_eq i) (k0_off3_inb i))))) $$ H6'
  ihave H6' := (show (highM.view.loc (V d (cV i) (jV i)) ↦[highM.view.set]{fullShare} bufVal (rows m d) (bat i) (qtr i) : sProp 𝕄)
    ⊢ bufPts d i (rows m d) (bat i) (qtr i) highRows from
    Entails.of_eq (congrArg (fun I => (highM.view.loc (V d (cV i) (jV i)) ↦[I]{fullShare} bufVal (rows m d) (bat i) (qtr i) : sProp 𝕄)) set_highM)) $$ H6'
  ihave H6 := ((pointsTo_union (ℓ := lowM.view.loc (V d (cV i) (jV i))) (q := fullShare) (f := bufVal (rows m d) (bat i) (qtr i)) low_high_disjoint).2) $$ [H6 H6']
  · isplitl [H6]; · iexact H6
    iexact H6'
  ihave H6 := (show (lowM.view.loc (V d (cV i) (jV i)) ↦[lowRows ∪ highRows]{fullShare} bufVal (rows m d) (bat i) (qtr i) : sProp 𝕄)
    ⊢ bufPts d i (rows m d) (bat i) (qtr i) Finset.univ from
    Entails.of_eq (congrArg (fun I => (lowM.view.loc (V d (cV i) (jV i)) ↦[I]{fullShare} bufVal (rows m d) (bat i) (qtr i) : sProp 𝕄)) low_high_union)) $$ H6
  sl_for (fun (k : Nat) (_ : PUnit) => iprop(bufPts d i (rows m d) (bat i) (qtr i) Finset.univ
    ∗ accPts d i (upTo (n := 8) k (part (rows m d) (lens m d) (bat i) (qtr i)) fun y => half (rows m d) (lens m d) (bat i) (qtr i) (y 0).val (y 1).val))) $$ [H6 H7]
  case region =>
    intro k _
    exact t4_trip d i (rows m d) (bat i) (qtr i) hb _ _ (lens m d) k
  · rw [upTo_zero]
    isplitl [H6]; · iexact H6
    iexact H7
  iintro %_ ⟨H6, H7⟩
  rw [show Scf.trips k0_t4_loop.lb k0_t4_loop.ub k0_t4_loop.st = 8 by decide +kernel, upTo_eight]
  ihave Hsh := (show (shLoc d (cV i) ↦[shRow (jV i).val]{fullShare} fsh : sProp 𝕄)
    ⊢ ((shRowM i).view.loc (V d (cV i) (jV i)) ↦[(shRowM i).view.set]{fullShare} fsh) from
    Entails.of_eq (congrArg (fun I => (shLoc d (cV i) ↦[I]{fullShare} fsh : sProp 𝕄)) (set_shRowM i).symm)) $$ Hsh
  sl_exec
  have hrow : ∀ y, tile_body.sl.dma0_2 d i m y = part (rows m d) (lens m d) (bat i) (qtr i) (y 0).val (y 1).val := by
    intro y
    unfold tile_body.sl.dma0_2
    rw [acc_read]
  ihave Hsh := (row_done d i m fsh (tile_body.sl.dma0_2 d i m) hrow) $$ Hsh
  ihave Hpays := (pays_intro d i m) $$ Hsh
  iapply (SparseCore.wp_subcoreBarrier 𝒱₀ none EB (bRd m) d (sc := cV i) (i := jV i) sc_bar0 (grid0.bound 1) hsub0 (i 1) rfl κ (fun _ => 0) (jV i).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV i) (jV i)) 3 (fun p hp => by
        rw [Finset.mem_singleton] at hp; subst hp
        show (K (F := F)).lev (bcell d (cV i) (jV i)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd m) (g := bcell d (cV i) (jV i)) (Set.mem_univ (κ _)) (fun h => h) (bRd_duties_succ m _)) $$ [Hat] with Hbar
  · isplitr
    · iapply (SparseCore.ent (bigSep_elim (Φ := fun j : Fin (grid0.bound 1) =>
        (cellInv EB (bRd m) (κ (bcell d (cV i) (j.castLE hsub0))) (bcell d (cV i) (j.castLE hsub0)) : sProp 𝕄)) (Finset.mem_univ (i 1)))); iexact Hinv
    · iexact Hat
  ihave Hsh := (pays_elim d i m) $$ Hgot
  ihave Hsh := (show (shLoc d (cV i) ↦[shRead (jV i).val]{fullShare} shVal m d (cV i) : sProp 𝕄)
    ⊢ ((shReadM i).view.loc (V d (cV i) (jV i)) ↦[(shReadM i).view.set]{fullShare} shVal m d (cV i)) from
    Entails.of_eq (congrArg (fun I => (shLoc d (cV i) ↦[I]{fullShare} shVal m d (cV i) : sProp 𝕄)) (set_shReadM i).symm)) $$ Hsh
  ihave H8 := (show ((V d (cV i) (jV i)).loc cc0_scratch3 ↦{fullShare} f8 : sProp 𝕄)
    ⊢ ((Memref.whole cc0_scratch3 : Memref sig .scVector .vmem S4x2x128 .f32).view.loc (V d (cV i) (jV i)) ↦{fullShare} f8)
    from BI.Entails.refl _) $$ H8
  generalize htp : tailP (F := F) i _ _ _ _ _ = tp
  sl_exec
  subst htp
  have e8 : tile_body.sl.dma0_3 d i m = parts (rows m d) (lens m d) (bat i) (qtr i) := by
    unfold tile_body.sl.dma0_3
    rw [same_read]
    exact funext fun y => read_shared i m d y
  rw [land_parts, e8]
  ihave Ho := (Entails.of_eq (out_split (F := F) d i (m (oLoc d)))) $$ Ho
  icases Ho with ⟨Ho, Ho'⟩
  ihave H9 := (show ((V d (cV i) (jV i)).loc cc0_scratch4 ↦{fullShare} f9 : sProp 𝕄)
    ⊢ ((Memref.whole cc0_scratch4 : Memref sig .scVector .vmem S2x128 .f32).view.loc (V d (cV i) (jV i)) ↦{fullShare} f9)
    from BI.Entails.refl _) $$ H9
  iapply (tail_run d i m f9 (m (oLoc d)) (m (oLoc d)) (shVal m d (cV i)) O _ _)
  isplitl [S5]; · iexact S5
  isplitl [H9]; · iexact H9
  isplitl [Ho]; · iexact Ho
  isplitl [Ho']; · iexact Ho'
  isplitl [S3]; · iexact S3
  isplitl [HO]; · iexact HO
  isplitr; · iexact Hmw2
  iintro ⟨H8, Hsh, H9, Ho, Ho', S3, S5, %W', %hW', HO⟩
  isplitl [Hx Hl Ho Ho' Hsh Hbar]
  · isplitr [Hbar]; swap; · iexact Hbar
    isplitr [Hsh]
    · isplitl [Hx]; · iexact Hx
      isplitl [Hl]; · iexact Hl
      iapply (Entails.of_eq (out_split (F := F) d i (outVal m d)).symm)
      isplitl [Ho]; · iexact Ho
      iexact Ho'
    iapply (show ((shReadM i).view.loc (V d (cV i) (jV i)) ↦[(shReadM i).view.set]{fullShare} shVal m d (cV i))
      ⊢ (shLoc d (cV i) ↦[shRead (jV i).val]{fullShare} shVal m d (cV i) : sProp 𝕄) from
      Entails.of_eq (congrArg (fun I => (shLoc d (cV i) ↦[I]{fullShare} shVal m d (cV i) : sProp 𝕄)) (set_shReadM i)))
    iexact Hsh
  isplitl [H5 H6 H7 H8 H9 Hbufs]
  · isplitl [H5]; · iexists _; iexact H5
    isplitl [H6]; · iexists _; iexact H6
    isplitl [H7]; · iexists _; iexact H7
    isplitl [H8]; · iexists _; iexact H8
    isplitl [H9]; · iexact H9
    iexact Hbufs
  isplitl [S0 S1 S2 S3 S4 S5 Hsems]
  · isplitl [S0]; · iexact S0
    isplitl [S1]; · iexact S1
    isplitl [S2]; · iexact S2
    isplitl [S3]; · iexact S3
    isplitl [S4]; · iexact S4
    isplitl [S5]; · iexact S5
    iexact Hsems
  iexists _; isplitr
  swap; · iexact HO
  ipureintro; intro p hp
  rcases hW' p hp with hp | hp; swap; · exact .inr (.inl hp)
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact .inl hp

end

end Cert.Proof.Pool
-- ==== Proof.Launch.lean ====
/-
  The whole program's run: the tiles' runs put together, what the launch hands out, @main, and the theorem `run_main`.
-/
module

public import proofs.«01_k».proof.Proof.Body

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within reshape_result')
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## A task is its tile's run -/

/-- The grid point of task `s` of SparseCore `c`. -/
def gridAt (c : Fin (grid0.bound 0)) (s : Fin (grid0.bound 1)) : grid0.Coords :=
  fun | 0 => c | 1 => s | ⟨_ + 2, h⟩ => absurd h (Nat.not_lt.2 (Nat.le_add_left _ _))

/-- The body table's entry for a vector subcore is the kernel at that subcore's grid point. -/
theorem defs₀_tile (c : Fin τ.nSC) (s : Fin τ.nSub) :
    defs₀ (F := F) (.scVector c s) 0 ()
      = SparseCore.onTile hcore0 hsub0 (fun c s => cc0_k (gridAt c s) (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1) ⟨⟩ c s := rfl

set_option maxRecDepth 16384 in
/-- Every task meets what the launch asks of it. -/
theorem tileObl (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]
  simp only [SparseCore.onTile, hci, and_self, ↓reduceDIte]
  exact tile_body d (gridAt ⟨_, hci.1⟩ ⟨_, hci.2⟩) m hF O W hO hOlev

/-! ## A SparseCore's part, dealt to its tiles and gathered again -/

/-- A conjunction over the call's tasks is one over the numbers below sixteen. -/
theorem over_tasks (Φ : Fin 16 → sProp 𝕄) : (bigSep Finset.univ fun i : Fin ((K (F := F)).nSub 0) => Φ ⟨i.val, i.isLt⟩) = bigSep Finset.univ Φ :=
  bigSep_congr fun _ _ => rfl

/-- A SparseCore's part of the buffers is its tiles' parts. -/
theorem corePts_tiles (d : Dev nD) (c : ℕ) (f : Buf (Elt F) (oLoc d)) :
    (corePts m d c f : sProp 𝕄) = bigSep Finset.univ fun i : Fin 16 => tilePts m d c i.val f := by
  unfold corePts tilePts
  rw [coreShare_tiles c (m (xLoc d)), coreShare_tiles c (lenVal m d), outCore_tiles, bigSep_sep', bigSep_sep']

/-- The sequencer's own buffers: its SparseCore's shared scratch, at some contents, and the others. -/
theorem seq_bufs (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' (show shRef c ∈ ownRefs (τ := τ) (sig := sig) (.scScalar c) from (mem_ownRefs (p := Proc.scScalar c) (b := shRef c)).mpr rfl)

/-- The shared scratch, at any contents, gives each tile its row at some contents. -/
theorem rows_out (d : Dev nD) (c : Fin τ.nSC) (g : Buf (Elt F) (shLoc d c)) :
    (shLoc d c ↦{fullShare} g : sProp 𝕄) ⊢ bigSep Finset.univ fun i : Fin 16 => iprop(∃ f, shLoc d c ↦[shRow i.val]{fullShare} f) :=
  (Entails.of_eq (shared_rows g)).trans (SparseCore.ent (bigSep_mono fun i _ =>
    BI.BIClass.exists_intro (Φ := fun f => (shLoc d c ↦[shRow i.val]{fullShare} f : sProp 𝕄)) g))

set_option maxRecDepth 16384 in
/-- The launch's split of a SparseCore's part among its tiles, and the way back with the result in place. -/
theorem vecSplit : (K (F := F)).VecSplit (P m) 0 := by
  intro d c
  show iprop(corePts m d (coreOf c).val (m (oLoc d)) ∗ ownBufs (S d (coreOf c))) ⊢ |={Set.univ}=> iprop(
      (bigSep Finset.univ fun i : Fin ((K (F := F)).nSub 0) => (fun t : Fin 16 => iprop(tilePts m d (coreOf c).val t.val (m (oLoc d))
        ∗ ∃ f, shLoc d (coreOf c) ↦[shRow t.val]{fullShare} f)) ⟨i.val, i.isLt⟩)
      ∗ ((bigSep Finset.univ fun i : Fin ((K (F := F)).nSub 0) => iprop((fun t : Fin 16 => iprop(tilePts m d (coreOf c).val t.val (outVal m d)
            ∗ (shLoc d (coreOf c) ↦[shRead t.val]{fullShare} shVal m d (coreOf c)))) ⟨i.val, i.isLt⟩ ∗ semVal (bcell d (coreOf c) (subOf i)) 0))
          -∗ iprop(iprop(corePts m d (coreOf c).val (outVal m d) ∗ bars d (coreOf c)) ∗ ownBufs (S d (coreOf c)))))
  rw [bigSep_sep' _ (fun i : Fin ((K (F := F)).nSub 0) => (fun t : Fin 16 => iprop(tilePts m d (coreOf c).val t.val (outVal m d)
            ∗ (shLoc d (coreOf c) ↦[shRead t.val]{fullShare} shVal m d (coreOf c)))) ⟨i.val, i.isLt⟩),
    over_tasks (F := F) (fun t : Fin 16 => iprop(tilePts m d (coreOf c).val t.val (m (oLoc d))
        ∗ ∃ f, shLoc d (coreOf c) ↦[shRow t.val]{fullShare} f)),
    over_tasks (F := F) (fun t : Fin 16 => iprop(tilePts m d (coreOf c).val t.val (outVal m d)
            ∗ (shLoc d (coreOf c) ↦[shRead t.val]{fullShare} shVal m d (coreOf c)))),
    bigSep_sep', bigSep_sep' _ (fun t : Fin 16 => tilePts m d (coreOf c).val t.val (outVal m d)), seq_bufs,
    ← corePts_tiles, ← corePts_tiles, ← shared_reads]
  iintro ⟨Hpts, ⟨%g, Hsh⟩, Hrest⟩
  imodintro
  isplitl [Hpts Hsh]
  · isplitl [Hpts]; · iexact Hpts
    iapply (rows_out d (coreOf c) g); iexact Hsh
  iintro ⟨⟨Hpts, Hsh⟩, Hbars⟩
  isplitl [Hpts Hbars]
  · isplitl [Hpts] <;> iassumption
  isplitl [Hsh]
  · iexists _; iexact Hsh
  iexact Hrest

/-! ## What the launch hands out -/

/-- Nothing, any number of times, is nothing. -/
theorem emps {I : Type} (s : Finset I) : (bigSep s fun _ => iprop(emp)) = (iprop(emp) : sProp 𝕄) := bigSep_emp_const s

/-- A tile of the machine: device, SparseCore, vector subcore. -/
abbrev TileId : Type := Dev nD × Fin τ.nSC × Fin τ.nSub
/-- A tile's barrier semaphore. -/
abbrev barOf (x : TileId) : GSem nD τ sig := bcell x.1 x.2.1 x.2.2

theorem barOf_injective : Function.Injective (barOf : TileId → GSem nD τ sig) := fun a b e => by
  obtain ⟨hd, hp⟩ := Prod.mk.inj (Prod.mk.inj e).1
  obtain ⟨hc, hi⟩ := Proc.scVector.inj hp
  exact Prod.ext hd (Prod.ext hc hi)

/-- The semaphores the certificate takes over at the launch: the tiles' barrier semaphores. -/
def barCells : Finset (GSem nD τ sig) := (Finset.univ : Finset TileId).image barOf
/-- The rights to arrive: one for each tile at each semaphore of its SparseCore. -/
def barToks : Finset (GSem nD τ sig × ℕ × ℕ) :=
  (Finset.univ : Finset (TileId × Fin (grid0.bound 1))).image fun x => (bcell x.1.1 x.1.2.1 (x.2.castLE hsub0), 0, x.1.2.2.val)
/-- The ghost state the run starts with. -/
def u₀ : UU := (initOf (K (F := F)).hsCells (K (F := F)).hsToks, (initOf barCells barToks, 1))

/-- The handshakes' part of the ghost state and the barrier's come apart. -/
theorem ghost_parts (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem over_barCells (Φ : GSem nD τ sig → sProp 𝕄) : bigSep barCells Φ = bigSep Finset.univ fun x : TileId => Φ (barOf x) := by
  unfold barCells
  exact SparseCore.bigSep_image_of_injOn (fun a _ b _ e => barOf_injective e) Φ

/-- The barrier semaphores, at zero, are among the free ones. -/
theorem bars_free : ((K (F := F)).freeOn (· ∈ barCells) : sProp 𝕄) ⊢ bigSep barCells fun g => semVal g 0 := by
  rw [over_barCells]
  unfold SparseCore.Cfg.freeOn
  refine sep_elim_right.trans (bigSep_mono fun x _ => ?_)
  refine bigSep_elim (Φ := fun sm : SemLoc sig => (semVal (V x.1 x.2.1 x.2.2, sm) 0 : sProp 𝕄)) (Finset.mem_filter.mpr ⟨?_, ?_⟩)
  · exact Finset.mem_erase.mpr ⟨fun h => sc_bar0_ne_go (SemLoc.reg.inj h), Finset.mem_filter.mpr ⟨Finset.mem_univ _, by decide⟩⟩
  · exact Finset.mem_image_of_mem barOf (Finset.mem_univ x)

/-- All the barrier's invariants at once. -/
theorem bars_invs : iprop((bigSep barCells fun g => (semVal g 0 : sProp 𝕄)) ∗ bigSep barCells fun g => roundState EB (bRd m) g 0)
    ⊢ |={Set.univ}=> iprop(∃ κ : GSem nD τ sig → ℕ, bigSep barCells fun g => cellInv EB (bRd m) (κ g) g) := by
  refine (Rounds.bodies_intro EB (bRd m) barCells).trans ((inv_alloc_family barCells (Rounds.body EB (bRd m)) ∅ (E := Set.univ)).trans ?_)
  iintro H
  imod H with ⟨%κ, -, Hinv⟩
  imodintro; iexists κ; iexact Hinv

/-- `n` arrivals of one are an arrival of `n`. -/
theorem tally_sum (g : GSem nD τ sig) (ι : HIx 1) (n : ℕ) : ∑ _ : Fin n, tallyAt g ι 1 = (tallyAt g ι n : CellTallies nD τ sig (HIx 1)) := by
  induction n with
  | zero => rw [tallyAt_zero]; exact Finset.sum_empty
  | succ n ih => rw [Fin.sum_univ_castSucc, ih, tallyAt_add]

/-- The credit for all the debts, regrouped by the semaphore that is paid: each tile has its sixteen arrivals'. -/
theorem bars_credit : ((P m).oxCred : sProp 𝕄) ⊢ bigSep Finset.univ fun x : TileId => cred (tallyAt (barOf x) (some 0) (grid0.bound 1)) := by
  have hox : ∀ (d : Dev nD) (c : Fin τ.nSC) (i : Fin τ.nSub), (P m).oxFrom 0 (V d c i) = oxV d c := fun d c i => by
    rw [show (0 : ℕ) = (0 : Fin 1).val from rfl, (P m).oxFrom_step, (P m).oxFrom_end _ (n := (0 : Fin 1).val + 1) le_rfl, add_zero]
    rfl
  unfold SparseCore.Cfg.Pay.oxCred
  rw [SparseCore.Cfg.bigSep_threads (fun thr : Thread nD τ => (cred ((P m).oxFrom 0 thr) : sProp 𝕄))]
  refine sep_elim_right.trans (sep_elim_right.trans ?_)
  rw [bigSep_univ_prod, bigSep_univ_prod (fun x : TileId => (cred (tallyAt (barOf x) (some 0) (grid0.bound 1)) : sProp 𝕄))]
  refine bigSep_mono fun d _ => ?_
  rw [bigSep_univ_prod, bigSep_univ_prod (fun x : Fin τ.nSC × Fin τ.nSub => (cred (tallyAt (barOf (d, x)) (some 0) (grid0.bound 1)) : sProp 𝕄))]
  refine bigSep_mono fun c _ => ?_
  simp only [hox]
  unfold oxV
  rw [SparseCore.Cfg.cred_finsum, bigSep_univ_comm]
  refine bigSep_mono fun j _ => ?_
  rw [← SparseCore.Cfg.cred_finsum, tally_sum]
  rfl

theorem over_barToks : (bigSep barToks fun x => (dutyTok EB x.1 x.2.1 x.2.2 : sProp 𝕄))
    = bigSep Finset.univ fun x : TileId => bigSep Finset.univ fun j : Fin (grid0.bound 1) => dutyTok EB (bcell x.1 x.2.1 (j.castLE hsub0)) 0 x.2.2.val := by
  unfold barToks
  rw [SparseCore.bigSep_image_of_injOn, bigSep_univ_prod]
  rintro ⟨⟨d, c, i⟩, j⟩ - ⟨⟨d', c', i'⟩, j'⟩ - e
  have hi : i = i' := Fin.ext (Prod.mk.inj (Prod.mk.inj e).2).2
  obtain ⟨rfl, hp⟩ := Prod.mk.inj (Prod.mk.inj (Prod.mk.inj e).1).1
  obtain ⟨rfl, hj⟩ := Proc.scVector.inj hp
  have hj' : j = j' := Fin.ext (congrArg Fin.val hj)
  subst hi
  subst hj'
  rfl

/-- What may be used any number of times goes to every member of a conjunction. -/
theorem share_all {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, Ha, Hs⟩
    isplitl [Ha]
    · iapply (h a (Finset.mem_insert_self a s)); isplitr; · iexact HR
      iexact Ha
    · iapply (ih fun i hi => h i (Finset.mem_insert_of_mem hi)); isplitr; · iexact HR
      iexact Hs

/-- What all tiles know: each barrier semaphore's invariant, and that it is in its first round. -/
abbrev known : sProp 𝕄 :=
  iprop((∃ κ : GSem nD τ sig → ℕ, bigSep Finset.univ fun x : TileId => cellInv EB (bRd m) (κ (barOf x)) (barOf x))
    ∗ bigSep Finset.univ fun x : TileId => reached EB (barOf x) 0)
/-- What one tile alone has: its place, its rights to arrive, its credit. -/
abbrev own1 (x : TileId) : sProp 𝕄 :=
  iprop(atPos EB (barOf x) 0 ∅ 0
    ∗ (bigSep Finset.univ fun j : Fin (grid0.bound 1) => dutyTok EB (bcell x.1 x.2.1 (j.castLE hsub0)) 0 x.2.2.val)
    ∗ cred (tallyAt (barOf x) (some 0) (grid0.bound 1)))

/-- From what all know about all the semaphores, the part about one SparseCore's. -/
theorem known_core (Φ : TileId → sProp 𝕄) [BI.Persistent (bigSep Finset.univ Φ)] (d : Dev nD) (c : Fin τ.nSC) :
    bigSep Finset.univ Φ ⊢ bigSep Finset.univ fun j : Fin (grid0.bound 1) => Φ (d, c, j.castLE hsub0) := by
  have h := share_all (R := bigSep Finset.univ Φ) (s := (Finset.univ : Finset (Fin (grid0.bound 1)))) (Φ := fun _ => iprop(emp))
    (Ψ := fun j => Φ (d, c, j.castLE hsub0)) fun j _ => sep_elim_left.trans (SparseCore.ent (bigSep_elim (Φ := Φ) (Finset.mem_univ _)))
  rw [emps] at h
  iintro H
  iapply h
  isplitl; · iexact H
  iempintro

/-- A tile's barrier kit. -/
theorem bkit_of (x : TileId) : iprop(known m ∗ own1 x) ⊢ (bkit m x.1 x.2.1 x.2.2 : sProp 𝕄) := by
  iintro ⟨⟨#Hinv, #Hr⟩, Hat, Htok, Hcred⟩
  unfold bkit
  isplitr
  · icases Hinv with ⟨%κ, Hinv⟩
    iexists κ
    iapply (known_core (fun x : TileId => (cellInv EB (bRd m) (κ (barOf x)) (barOf x) : sProp 𝕄)) x.1 x.2.1)
    iexact Hinv
  isplitl [Htok]; · iexact Htok
  isplitr
  · iapply (known_core (fun x : TileId => (reached EB (barOf x) 0 : sProp 𝕄)) x.1 x.2.1)
    iexact Hr
  isplitl [Hat]; · iexact Hat
  iexact Hcred

theorem extra_T (d : Dev nD) : (bigSep Finset.univ fun q : Fin 1 => (P m).x q (SparseCore.T d)) = iprop(emp) :=
  bigSep_univ_of_subsingleton (0 : Fin 1)
theorem extra_S (d : Dev nD) (c : Fin τ.nSC) : (bigSep Finset.univ fun q : Fin 1 => (P m).x q (S d c)) = iprop(emp) :=
  bigSep_univ_of_subsingleton (0 : Fin 1)
theorem extra_V (d : Dev nD) (c : Fin τ.nSC) (i : Fin τ.nSub) : (bigSep Finset.univ fun q : Fin 1 => (P m).x q (V d c i)) = bkit m d c i :=
  bigSep_univ_of_subsingleton (0 : Fin 1)

/-- The kits, dealt to all threads: the tiles have theirs, the other threads need nothing. -/
theorem deal : iprop(known m ∗ bigSep Finset.univ fun x : TileId => own1 x)
    ⊢ (bigSep Finset.univ fun thr : Thread nD τ => bigSep Finset.univ fun q : Fin 1 => (P m).x q thr : sProp 𝕄) := by
  rw [SparseCore.Cfg.bigSep_threads (fun thr : Thread nD τ => bigSep Finset.univ fun q : Fin 1 => (P m).x q thr)]
  simp only [extra_T, extra_S, extra_V, emps]
  iintro H
  isplitr; · iempintro
  isplitr; · iempintro
  iapply (share_all (R := known m) (Φ := own1 (F := F)) (Ψ := fun x : TileId => bkit m x.1 x.2.1 x.2.2) fun x _ => bkit_of m x)
  iexact H

/-- The launch: from the starting ghost state, the credit and the free semaphores, the handshakes' part and the kits. -/
theorem launch : iprop(ownU (u₀ (F := F)) ∗ (P m).oxCred ∗ (K (F := F)).freeOn (· ∈ barCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ghost_parts _ _) $$ Hu
  icases H with ⟨HH, HB⟩
  imod (Rounds.fund EB (bRd m) barCells barToks) $$ HB with ⟨Hst, #Hr, Hat, Htok⟩
  ihave Hsems := (bars_free (F := F)) $$ Hfree
  imod (bars_invs m) $$ [Hsems Hst] with ⟨%κ, #Hinv⟩
  · isplitl [Hsems] <;> iassumption
  ihave Hcred := (bars_credit m) $$ Hcred
  ihave Hinv' := (Entails.of_eq (over_barCells (F := F) fun g => cellInv EB (bRd m) (κ g) g)) $$ Hinv
  ihave Hr' := (Entails.of_eq (over_barCells (F := F) fun g => reached EB g 0)) $$ Hr
  ihave Hat := (Entails.of_eq (over_barCells (F := F) fun g => atPos EB g 0 ∅ 0)) $$ Hat
  ihave Htok := (Entails.of_eq (over_barToks (F := F))) $$ Htok
  imodintro
  isplitl [HH]; · iexact HH
  isplitr; · rw [emps]; iempintro
  iapply (deal m)
  isplitr
  · isplitl; · iexists κ; iexact Hinv'
    iexact Hr'
  unfold own1
  rw [bigSep_sep', bigSep_sep']
  isplitl [Hat]; · iexact Hat
  isplitl [Htok]; · iexact Htok
  iexact Hcred

/-! ## @main -/

abbrev xRef : DevRef τ sig := Proc.devRef .tc (main_arg0 : Ref sig .tc)
abbrev aRef : DevRef τ sig := Proc.devRef .tc (main_arg1 : Ref sig .tc)
abbrev lRef : DevRef τ sig := Proc.devRef .tc (main_v0 : Ref sig .tc)
abbrev oRef : DevRef τ sig := Proc.devRef .tc (main_v1 : Ref sig .tc)
/-- @main's first operation: the lengths, put in one line. -/
abbrev opLine : HloOp τ sig (Elt F) := StableHlo.reshape main_arg1 main_v0 (rfl : (.i32 : EltTy) = .i32) shapeCasts_S8x8_S64
/-- @main's arrays. -/
abbrev arrays : Finset (DevRef τ sig) := {xRef, aRef, lRef, oRef}

theorem held_arrays (d : Dev nD) (W : Valuation τ sig (Elt F)) :
    (held (T d) arrays W : sProp 𝕄)
      = iprop((xLoc d ↦{fullShare} W xRef) ∗ (aLoc d ↦{fullShare} W aRef) ∗ (lLoc d ↦{fullShare} W lRef) ∗ (oLoc d ↦{fullShare} W oRef)) := by
  unfold held arrays
  rw [SparseCore.bigSep_insert' (by decide), SparseCore.bigSep_insert' (by decide), SparseCore.bigSep_insert' (by decide), bigSep_singleton]

/-- The arrays as the program starts. -/
def atStart (d : Dev nD) : Valuation τ sig (Elt F) := fun b => m (d, b)

theorem start_held (d : Dev nD) : (unscopedBufs d (fun b => m ((SparseCore.T d).loc b)) : sProp 𝕄) = held (T d) arrays (atStart m d) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton,
    held_arrays]
  rfl

theorem opLine_bufs : (opLine (F := F)).bufs ⊆ arrays := show ({aRef, lRef} : Finset (DevRef τ sig)) ⊆ arrays by decide

/-- After the first operation the line of lengths is in place and nothing else has changed. -/
theorem held_line (d : Dev nD) :
    (held (T d) arrays ((opLine (F := F)).result (atStart m d)) : sProp 𝕄)
      = iprop((xLoc d ↦{fullShare} m (xLoc d)) ∗ (aLoc d ↦{fullShare} m (aLoc d)) ∗ (lLoc d ↦{fullShare} lenVal m d) ∗ (oLoc d ↦{fullShare} m (oLoc d))) := by
  rw [held_arrays,
    (opLine (F := F)).result_of_not_mem (atStart m d) (b := xRef) (show xRef ∉ ({lRef} : Finset (DevRef τ sig)) by decide),
    (opLine (F := F)).result_of_not_mem (atStart m d) (b := aRef) (show aRef ∉ ({lRef} : Finset (DevRef τ sig)) by decide),
    (opLine (F := F)).result_of_not_mem (atStart m d) (b := oRef) (show oRef ∉ ({lRef} : Finset (DevRef τ sig)) by decide),
    show (opLine (F := F)).result (atStart m d) lRef = lenVal m d from reshape_result' _ _ _ _ _]
  rfl

/-- What the call takes: the rows, the line of lengths, the result's buffer. -/
theorem call_in (d : Dev nD) : (bigSep Finset.univ fun c : Fin ((K (F := F)).nCore 0) => (P m).st 0 d c)
    = iprop((xLoc d ↦{fullShare} m (xLoc d)) ∗ (lLoc d ↦{fullShare} lenVal m d) ∗ (oLoc d ↦{fullShare} m (oLoc d))) := by
  show (bigSep (Finset.univ : Finset (Fin 2)) fun c => corePts m d c.val (m (oLoc d))) = _
  unfold corePts
  rw [bigSep_sep', bigSep_sep', ← fullShare_cores, ← fullShare_cores, ← out_cores]

/-- What it gives back: the same with the result in place, and the barrier semaphores. -/
theorem call_out (d : Dev nD) : (bigSep Finset.univ fun c : Fin ((K (F := F)).nCore 0) => (P m).dn 0 d c)
    = iprop(((xLoc d ↦{fullShare} m (xLoc d)) ∗ (lLoc d ↦{fullShare} lenVal m d) ∗ (oLoc d ↦{fullShare} outVal m d))
        ∗ bigSep Finset.univ fun c : Fin ((K (F := F)).nCore 0) => bars (F := F) d (coreOf c)) := by
  show (bigSep (Finset.univ : Finset (Fin 2)) fun c => iprop(corePts m d c.val (outVal m d) ∗ bars d (coreOf c))) = _
  unfold corePts
  rw [bigSep_sep', bigSep_sep', bigSep_sep', ← fullShare_cores, ← fullShare_cores, ← out_cores]

/-- What @main keeps to the end. -/
abbrev FIN (d : Dev nD) : sProp 𝕄 :=
  iprop((xLoc d ↦{fullShare} m (xLoc d)) ∗ (aLoc d ↦{fullShare} m (aLoc d)) ∗ (oLoc d ↦{fullShare} outVal m d)
    ∗ bigSep Finset.univ fun c : Fin ((K (F := F)).nCore 0) => bars (F := F) d (coreOf c))

/-- @main's run: the line of lengths, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [start_held]
  simp only [main, wp_bind, wp_pure]
  iintro ⟨#Hctx, Hst, ⟨Hb, Hheld, Hts, -⟩, -⟩
  iapply (wp_hlo_within 𝒱 (SparseCore.T d) none Set.univ (op := opLine) (S := arrays) opLine_bufs (V := atStart m d)) $$ [Hb Hheld]
  · isplitl [Hb] <;> iassumption
  iintro ⟨Hb, Hheld⟩
  ihave Hh := (Entails.of_eq (held_line m d)) $$ Hheld
  icases Hh with ⟨Hx, Ha, Hl, Ho⟩
  rw [wp_ret]; imodintro
  iapply ((K (F := F)).wp_run (D (F := F)) 𝒱 (EH := EH) (P := P m) κ d 0) $$ [Hst Hx Ha Hl Ho Hb Hts]
  isplitr; · iexact Hctx
  isplitl [Hst]; · iexact Hst
  isplitl [Hx Hl Ho]
  · rw [call_in]
    isplitl [Hx]; · iexact Hx
    isplitl [Hl]; · iexact Hl
    iexact Ho
  iintro ⟨Hst, Hdn⟩
  ihave Hdn := (Entails.of_eq (call_out m d)) $$ Hdn
  icases Hdn with ⟨⟨Hx, -, Ho⟩, Hbars⟩
  imodintro
  isplitl [Hst]; · iexact Hst
  isplitr [Hb Hts]
  · isplitl [Hx]; · iexact Hx
    isplitl [Ha]; · iexact Ha
    isplitl [Ho]; · iexact Ho
    iexact Hbars
  isplitl [Hb] <;> iassumption

/-! ## The final memory -/

/-- What holds of device `d`'s memory at the end. -/
def atEnd (d : Dev nD) (s' : Phys nD τ sig (Elt F)) : Prop :=
  (s'.mem.mem (xLoc d) = m (xLoc d) ∧ s'.mem.mem (aLoc d) = m (aLoc d) ∧ s'.mem.mem (oLoc d) = outVal m d)
    ∧ ∀ (c : Fin ((K (F := F)).nCore 0)) (i : Fin ((K (F := F)).nSub 0)), s'.mem.sem (bcell d (coreOf c) (subOf i)) = 0

/-- A buffer held whole is what the memory has. -/
theorem buf_read (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨H, HSI⟩
  ihave H := (SI_pointsTo_agree (st := s') (ℓ := ℓ) (I := Finset.univ) (q := fullShare) (f := f)) $$ [HSI H]
  · isplitl [HSI] <;> iassumption
  icases H with %h
  ipureintro
  exact funext fun i => h i (Finset.mem_univ i)

theorem hfin (d : Dev nD) (s' : Phys nD τ sig (Elt F)) : iprop(FIN m d ∗ SI s') ⊢ (⌜atEnd m d s'⌝ : sProp 𝕄) := fun x hx =>
  ⟨⟨((sep_mono_left sep_elim_left).trans (buf_read (xLoc d) _ s')) x hx,
    ((sep_mono_left (sep_elim_right.trans sep_elim_left)).trans (buf_read (aLoc d) _ s')) x hx,
    ((sep_mono_left (sep_elim_right.trans (sep_elim_right.trans sep_elim_left))).trans (buf_read (oLoc d) _ s')) x hx⟩,
   fun c i => ((sep_mono_left (sep_elim_right.trans (sep_elim_right.trans (sep_elim_right.trans
      ((SparseCore.ent (bigSep_elim (Finset.mem_univ c))).trans (SparseCore.ent (bigSep_elim (Finset.mem_univ i)))))))).trans
        (SparseCore.Cfg.semVal_zero_read _ s')) x hx⟩

/-- The semaphores taken over at the launch end at zero. -/
theorem bars_end (s' : Phys nD τ sig (Elt F)) (h : ∀ d, atEnd m d s') (g : GSem nD τ sig) (hg : g ∈ barCells) : s'.mem.sem g = 0 := by
  obtain ⟨⟨d, c, i⟩, -, rfl⟩ := Finset.mem_image.mp hg
  exact (h d).2 ⟨c.val, c.isLt⟩ ⟨i.val, i.isLt⟩

/-- The program's final states: the arguments unchanged, the result the means, every semaphore zero. -/
def Done : PUnit × MemSt nD τ sig (Elt F) → Prop := fun r =>
  (∀ d : Dev nD, r.2.mem (xLoc d) = m (xLoc d) ∧ r.2.mem (aLoc d) = m (aLoc d) ∧ r.2.mem (oLoc d) = outVal m d) ∧ r.2.sem = fun _ => 0

/-- Every run of the program ends so. -/
theorem run_main [∀ e, Nonempty (Elt F e)] :
    θ_run (Cert.KernelIdeal.defs (F := F)) (Cert.KernelIdeal.threads (F := F)) ⟨m, fun _ => 0, ρ⟩ (Done m) :=
  SparseCore.Cfg.θ_run_sc_quiescent (K := K (F := F)) (D := D (F := F)) (𝒱 := 𝒱) (EH := EH) (P := P m) (hA := bars_end m) facts v₀
    (fun q hq => match q with | 0 => nomatch hq)
    (fun q _ => match q with | 0 => tileObl m facts)
    (fun q _ => match q with | 0 => vecSplit m)
    m ρ main (fun _ => iprop(emp)) (FIN m) (u₀ (F := F)) (launch m) (hmain m ρ) (atEnd m) (hfin m) (Done m) (fun _ h hz => ⟨fun d => (h d).1, hz⟩)

end Cert.Proof.Pool
-- ==== Proof.Reference.lean ====
/-
  What the reference computes, element by element: for patch `p` of batch `b` the rows from the sum of the first `p`
  lengths up to (and without) the sum of the first `p + 1`, as far as the batch has rows; their sum, over their number.
-/
module

public import Idealize.ShloMosaic.Lib.Pointwise
public import Idealize.ShloMosaic.Lib.IdealHost
public import Idealize.ShloMosaic.Lib.WordArith
public import Idealize.ShloMosaic.Lib.Routing.Ops
public import Idealize.ShloMosaic.Lib.StableHlo.Predicate
public import proofs.«01_k».proof.Proof.Gen.ReferenceIdeal.Run

@[expose] public section

noncomputable section

namespace Cert.Proof.Ref

open Cert.ReferenceIdeal Cert.ReferenceIdeal.Gen
open Idealize.ShloMosaic

variable (A : S8x8.Idx → BitVec 32) (X : S8x2048x128.Idx → Ideal .f32)

/-- The sum of the first `k` lengths of batch `b`. -/
def cum (b : Fin 8) (k : Nat) : Nat := ∑ i ∈ Finset.range k, (A (ix2 b (Fin.ofNat 8 i))).toNat

/-- The lengths are below 512. -/
def Small : Prop := ∀ i, (A i).toNat < 512

variable {A}

/-- Eight lengths add up to less than 4096. -/
theorem cum_le (hA : Small A) (b : Fin 8) (k : Nat) : cum A b k ≤ 512 * k :=
  (Finset.sum_le_card_nsmul _ _ 512 fun i _ => (hA _).le).trans (by simp [Nat.mul_comm])

theorem cum_mono (b : Fin 8) (k : Nat) : cum A b k ≤ cum A b (k + 1) := by
  unfold cum; rw [Finset.sum_range_succ]; exact Nat.le_add_right _ _

variable (A)

/-! ## The reference's named parts -/

/-- The running sums of each batch's lengths: where each patch ends. -/
def ends : IVec S8x8 32 :=
  Host.reduceWindow IntOp.addi ![1, 8] ![1, 1] ![0, 7] ![0, 0] A (broadcastInDim S_ ![] bcast_S_S_ (constantI S_ 32 0#32))
    reduceWindows_S8x8_S8x8_w1s1p0_0_w8s1p7_0 h_S_

/-- The row's number, at every place of the large block. -/
def rowNo : IVec S8x8x2048x128 32 :=
  shapeCast _ (broadcastInDim S8x1x8x1x1x2048x128x1 ![0, 1, 2, 3, 4, 5, 6, 7]
    bcast_S1x1x1x1x1x2048x1x1_S8x1x8x1x1x2048x128x1_0_1_2_3_4_5_6_7
    (shapeCast _ (broadcastInDim S1x1x2048x1 ![2, 3] bcast_S2048x1_S1x1x2048x1_2_3
      (shapeCast _ (iotaInDim S2048 32 0) shapeCasts_S2048_S2048x1)) shapeCasts_S1x1x2048x1_S1x1x1x1x1x2048x1x1))
    shapeCasts_S8x1x8x1x1x2048x128x1_S8x8x2048x128

/-- Where each patch starts: a zero put before the ends, the last end dropped. -/
def starts : FVec Ideal S8x8 .f32 :=
  extractStridedSlice S8x8 ![0, 0] (concatenate S8x9 1 [⟨S8x1, (broadcastInDim S8x1 ![] bcast_S_S8x1
    (constant S_ .f32 0x00000000#32))⟩, ⟨S8x8, (sitofp .f32 (ends A))⟩] concatenates_S8x1_S8x8_S8x9_d1) slices_S8x9_S8x8_0_0

/-- Which rows belong to which patch. -/
def mask : IVec S8x8x2048x128 1 :=
  andi (cmpi .slt rowNo (broadcastInDim S8x8x2048x128 ![0, 1, 2, 3] bcast_S8x8x1x1_S8x8x2048x128_0_1_2_3
      (broadcastInDim S8x8x1x1 ![0, 1] bcast_S8x8_S8x8x1x1_0_1 (ends A))))
    (cmpf .oge (sitofp .f32 rowNo : FVec Ideal S8x8x2048x128 .f32) (broadcastInDim S8x8x2048x128 ![0, 1, 2, 3]
      bcast_S8x8x1x1_S8x8x2048x128_0_1_2_3 (broadcastInDim S8x8x1x1 ![0, 1] bcast_S8x8_S8x8x1x1_0_1 (starts A))))

/-- The rows, repeated for every patch. -/
def wide : FVec Ideal S8x8x2048x128 .f32 :=
  shapeCast _ (shapeCast _ (broadcastInDim S8x8x2048x128 ![0, 2, 3] bcast_S8x2048x128_S8x8x2048x128_0_2_3 X)
    shapeCasts_S8x8x2048x128_S64x2048x128) shapeCasts_S64x2048x128_S8x8x2048x128

/-- How many rows each patch has. -/
def cnt : IVec S8x8x128 32 :=
  Host.reduce IntOp.addi (extui 32 (mask A) natLt_1_32) (constantI S_ 32 0#32) reducesTo_S8x8x2048x128_S8x8x128_d2 h_S_

/-- The sum of each patch's rows. -/
def tot : FVec Ideal S8x8x128 .f32 :=
  Host.reduceAdd (select (mask A) (wide X) (broadcastInDim S8x8x2048x128 ![] bcast_S_S8x8x2048x128
    (id (constant S_ .f32 0x00000000#32)))) (constant S_ .f32 0x00000000#32) reducesTo_S8x8x2048x128_S8x8x128_d2 h_S_

/-- The result. -/
def out : FVec Ideal S8x8x128 .f32 :=
  Host.divf (select (cmpi .eq (cnt A) (broadcastInDim S8x8x128 ![] bcast_S_S8x8x128 (constantI S_ 32 0#32)))
      (broadcastInDim S8x8x128 ![] bcast_S_S8x8x128 (id (constant S_ .f32 0xBF800000#32))) (tot A X))
    (sitofp .f32 (select (cmpi .eq (cnt A) (broadcastInDim S8x8x128 ![] bcast_S_S8x8x128 (constantI S_ 32 0#32)))
      (broadcastInDim S8x8x128 ![] bcast_S_S8x8x128 (id (constantI S_ 32 1#32))) (cnt A)))

/-- The reference's run ends with this result. -/
theorem res_eq (m : (ℓ : Loc nD τ sig) → Buf (Elt Ideal) ℓ) (c : Dev nD) :
    Value.res_out0 m c = out (m ((c.tc : Thread nD τ).loc main_arg1)) (m ((c.tc : Thread nD τ).loc main_arg0)) := rfl

/-! ## The parts, element by element -/

/-- The window of eight has eight places, and place `n` is in column `n`. -/
theorem place (n : Fin (⟨2, ![1, 8]⟩ : Shape).numel) : n.val < 8 ∧
    ((⟨2, ![1, 8]⟩ : Shape).rowMajor.symm n 0).val = 0 ∧ ((⟨2, ![1, 8]⟩ : Shape).rowMajor.symm n 1).val = n.val := by
  revert n; decide +kernel

theorem ends_at (b p : Fin 8) : ends A (ix2 b p) = BitVec.ofNat 32 (cum A b (p.val + 1)) := by
  unfold ends Host.reduceWindow
  refine (Routing.foldl_addi_ofNat _ _ (fun n => if 7 ≤ p.val + n.val then
    (A (ix2 b (Fin.ofNat 8 (p.val + n.val - 7)))).toNat else 0) (fun n _ => ?_) _ 0 rfl).trans ?_
  · obtain ⟨hn, h0, h1⟩ := place n
    have hp := p.isLt
    have hb := b.isLt
    dsimp only
    split
    · next hin =>
      have h := (hin 1).1
      change 7 ≤ p.val * 1 + ((⟨2, ![1, 8]⟩ : Shape).rowMajor.symm n 1).val at h
      rw [h1, Nat.mul_one] at h
      rw [if_pos h, BitVec.ofNat_toNat, BitVec.setWidth_eq]
      refine congrArg A (funext fun a => Fin.ext ?_)
      match a with
      | ⟨0, _⟩ =>
        show b.val * 1 + ((⟨2, ![1, 8]⟩ : Shape).rowMajor.symm n 0).val - 0 = b.val
        rw [h0]; omega
      | ⟨1, _⟩ =>
        show p.val * 1 + ((⟨2, ![1, 8]⟩ : Shape).rowMajor.symm n 1).val - 7 = (p.val + n.val - 7) % 8
        rw [h1]; omega
    · next hin =>
      rw [if_neg fun h => hin fun a => ?_]; · rfl
      match a with
      | ⟨0, _⟩ =>
        show 0 ≤ b.val * 1 + ((⟨2, ![1, 8]⟩ : Shape).rowMajor.symm n 0).val
          ∧ b.val * 1 + ((⟨2, ![1, 8]⟩ : Shape).rowMajor.symm n 0).val - 0 < 8
        rw [h0]; omega
      | ⟨1, _⟩ =>
        show 7 ≤ p.val * 1 + ((⟨2, ![1, 8]⟩ : Shape).rowMajor.symm n 1).val
          ∧ p.val * 1 + ((⟨2, ![1, 8]⟩ : Shape).rowMajor.symm n 1).val - 7 < 8
        rw [h1]; omega
  · have hl : (List.finRange (⟨2, ![1, 8]⟩ : Shape).numel) = List.finRange 8 := rfl
    refine congrArg (BitVec.ofNat 32) ((Nat.zero_add _).trans ?_)
    refine (congrArg (fun l : List (Fin 8) => (l.map fun n => if 7 ≤ p.val + n.val then
      (A (ix2 b (Fin.ofNat 8 (p.val + n.val - 7)))).toNat else 0).sum) (rfl : _ = List.finRange 8)).trans ?_
    unfold cum
    rw [← List.ofFn_eq_map, List.sum_ofFn, Fin.sum_univ_eight]
    fin_cases p <;> simp [Finset.sum_range_succ]

theorem rowNo_at (b p : Fin 8) (s : Fin 2048) (c : Fin 128) : rowNo (ix4 b p s c) = BitVec.ofNat 32 s.val := by
  pointwise [rowNo]

/-- A small number, written as a word, read as a signed integer is that number. -/
theorem sitofp_ofNat {n : Nat} (hn : n < 2 ^ 31) :
    (FloatOps.sitofp .f32 (BitVec.ofNat 32 n) : Ideal .f32) = ((n : ℝ) : EReal) := by
  show (((BitVec.ofNat 32 n).toInt : ℝ) : EReal) = _
  rw [WordArith.toInt_ofNat_small n hn]
  simp

theorem starts_at (hA : Small A) (b p : Fin 8) : starts A (ix2 b p) = ((cum A b p.val : ℝ) : EReal) := by
  have hp := p.isLt
  have hc := cum_le hA b p.val
  pointwise [starts]
  split
  · next h =>
    have h0 : p.val = 0 := by omega
    simp [h0, cum]
  · next h =>
    rw [ends_at, sitofp_ofNat]
    · have : p.val - 1 + 1 = p.val := by omega
      simp only [this]
    · have := cum_le hA b (p.val - 1 + 1)
      show cum A b (p.val - 1 + 1) < _
      omega

theorem wide_at (b p : Fin 8) (s : Fin 2048) (c : Fin 128) : wide X (ix4 b p s c) = X (ix3 b s c) := by
  pointwise [wide]

theorem mask_at (hA : Small A) (b p : Fin 8) (s : Fin 2048) (c : Fin 128) :
    mask A (ix4 b p s c) = BitVec.ofBool (decide (cum A b p.val ≤ s.val ∧ s.val < cum A b (p.val + 1))) := by
  have hp := p.isLt
  have hs := s.isLt
  have hc := cum_le hA b (p.val + 1)
  pointwise [mask]
  rw [rowNo_at, ends_at, starts_at A hA, sitofp_ofNat (by omega)]
  have h1 : IntOp.cmpi .slt (BitVec.ofNat 32 s.val) (BitVec.ofNat 32 (cum A b (p.val + 1)))
      = BitVec.ofBool (decide (s.val < cum A b (p.val + 1))) := by
    simp only [IntOp.cmpi, BitVec.slt]
    rw [WordArith.toInt_ofNat_small _ (by omega), WordArith.toInt_ofNat_small _ (by omega)]
    simp only [Nat.cast_lt]
  have h2 : (((cum A b p.val : ℝ) : EReal) ≤ ((s.val : ℝ) : EReal)) ↔ cum A b p.val ≤ s.val := by
    rw [EReal.coe_le_coe_iff, Nat.cast_le]
  rw [h1, decide_eq_decide.2 h2, WordArith.andi_ofBool, ← Bool.decide_and, decide_eq_decide.2 and_comm]

/-- The source of a sum along the rows. -/
theorem lift_eq (b p : Fin 8) (c : Fin 128) (s : Fin 2048) :
    (by decide : S8x8x2048x128.Reduces [2] S8x8x128).lift (ix3 b p c) s = ix4 b p s c := by
  funext a
  match a with
  | ⟨0, _⟩ => rfl
  | ⟨1, _⟩ => rfl
  | ⟨2, _⟩ => rfl
  | ⟨3, _⟩ => rfl

theorem cnt_at (hA : Small A) (b p : Fin 8) (c : Fin 128) : cnt A (ix3 b p c) = BitVec.ofNat 32
    (∑ s : Fin 2048, if cum A b p.val ≤ s.val ∧ s.val < cum A b (p.val + 1) then 1 else 0) := by
  unfold cnt
  rw [Host.reduce_eq_fold_single _ _ _ _ (by decide : S8x8x2048x128.Reduces [2] S8x8x128)]
  have hf : (extui 32 (mask A) natLt_1_32 ∘ (by decide : S8x8x2048x128.Reduces [2] S8x8x128).lift (ix3 b p c))
      = fun s : Fin 2048 => (BitVec.ofBool (decide (cum A b p.val ≤ s.val ∧ s.val < cum A b (p.val + 1)))).setWidth 32 := by
    funext s
    show (mask A ((by decide : S8x8x2048x128.Reduces [2] S8x8x128).lift (ix3 b p c) s)).setWidth 32 = _
    exact congrArg (BitVec.setWidth 32) ((congrArg (mask A) (lift_eq b p c s)).trans (mask_at A hA b p s c))
  have hv : ∀ s : Fin 2048,
      ((BitVec.ofBool (decide (cum A b p.val ≤ s.val ∧ s.val < cum A b (p.val + 1)))).setWidth 32).toNat
        = if cum A b p.val ≤ s.val ∧ s.val < cum A b (p.val + 1) then 1 else 0 := by
    intro s
    rw [StableHlo.Predicate.toNat_setWidth_bit]
    simp only [WordArith.ofBool_eq_one_iff, decide_eq_true_eq]
  have hle : (∑ s : Fin 2048, if cum A b p.val ≤ s.val ∧ s.val < cum A b (p.val + 1) then 1 else 0) ≤ 2048 := by
    refine (Finset.sum_le_card_nsmul _ _ 1 fun s _ => ?_).trans (by simp)
    split <;> omega
  refine (congrArg (fun f : Fin 2048 → BitVec 32 => Finset.fold IntOp.addi 0#32 f (Finset.univ : Finset (Fin 2048))) hf).trans
    (BitVec.eq_of_toNat_eq ?_)
  rw [StableHlo.Predicate.toNat_fold_addi (ι := Fin 2048)]
  · rw [Finset.sum_congr rfl fun s _ => hv s, BitVec.toNat_ofNat, Nat.mod_eq_of_lt (by omega)]
  · rw [Finset.sum_congr rfl fun s _ => hv s]; omega

theorem tot_at (hA : Small A) (b p : Fin 8) (c : Fin 128) : tot A X (ix3 b p c) =
    ∑ s : Fin 2048, if cum A b p.val ≤ s.val ∧ s.val < cum A b (p.val + 1) then X (ix3 b s c) else 0 := by
  pointwise [tot]
  refine Finset.sum_congr rfl fun s _ => ?_
  rw [mask_at A hA, wide_at]
  show (if BitVec.ofBool _ = 1#1 then _ else Ideal.ofBits .f32 0#32) = _
  simp only [WordArith.ofBool_eq_one_iff, decide_eq_true_eq, Ideal.ofBits_zero_f32]

/-- The result: -1 for a patch without rows, otherwise the sum of its rows over their number. -/
theorem out_at (hA : Small A) (b p : Fin 8) (c : Fin 128) : out A X (ix3 b p c) =
    Ideal.div (Scalar.select (IntOp.cmpi .eq (cnt A (ix3 b p c)) 0#32) (Ideal.ofBits .f32 0xBF800000#32) (tot A X (ix3 b p c)))
      (FloatOps.sitofp .f32 (Scalar.select (IntOp.cmpi .eq (cnt A (ix3 b p c)) 0#32) 1#32 (cnt A (ix3 b p c))) : Ideal .f32) := by
  pointwise [out]
  rfl

end Cert.Proof.Ref
-- ==== Proof.Bounds.lean ====
/-
  The kernel's bounds as numbers: where lengths are below 512, patch `p` of batch `b` has the rows from `cum b p` up to
  (and without) `cum b (p + 1)`, cut at the batch's 2048 rows; and what of it lies in each quarter.
-/
module

public import proofs.«01_k».proof.Proof.Values
public import proofs.«01_k».proof.Proof.Reference

@[expose] public section

noncomputable section

namespace Cert.Proof.Pool

open Cert.KernelIdeal Cert.KernelIdeal.Gen
open Idealize.ShloMosaic
open Cert.Proof.Ref (cum Small cum_le cum_mono)

/-! ## Running sums -/

/-- Lane `n` of the running sums is the sum of the lanes up to `n`, where the lanes are small numbers. -/
theorem scan_at (v : IVec S16 32) (hv : ∀ l, (v l).toNat < 512) (n : Fin 16) :
    scan .sum v (lane n) = BitVec.ofNat 32 (∑ k ∈ Finset.range (n.val + 1), (v (lane (Fin.ofNat 16 k))).toNat) := by
  have hs : scan .sum v (lane n) = ((List.finRange 16).filter fun k : Fin 16 => decide (0 < k.val ∧ k.val ≤ n.val)).foldl
      (fun r k => IntOp.addi r (v (Shape.ofLane k))) (v (Shape.ofLane (0 : Fin 16))) := rfl
  have hl : ∀ n : Fin 16, (((List.finRange 16).filter fun k : Fin 16 => decide (0 < k.val ∧ k.val ≤ n.val)).map fun k => k.val)
      = List.range' 1 n.val := by decide
  have hm : ∀ k : Fin 16, Fin.ofNat 16 k.val = k := by decide
  have hf : ∀ l : List (Fin 16), (l.map fun k => (v (lane k)).toNat)
      = (l.map fun k => k.val).map fun k => (v (lane (Fin.ofNat 16 k))).toNat := by
    intro l
    rw [List.map_map]
    refine List.map_congr_left fun k _ => ?_
    show _ = (v (lane (Fin.ofNat 16 k.val))).toNat
    rw [hm]
  refine hs.trans ((Routing.foldl_addi_ofNat _ _ (fun k => (v (lane k)).toNat) (fun k _ => ?_) _ (v (lane 0)).toNat ?_).trans ?_)
  · rw [ofLane_eq, BitVec.ofNat_toNat, BitVec.setWidth_eq]
  · rw [ofLane_eq, BitVec.ofNat_toNat, BitVec.setWidth_eq]
  · rw [hf, hl]
    congr 1
    have hr : List.range (n.val + 1) = 0 :: List.range' 1 n.val := by
      rw [List.range_eq_range', List.range'_succ]
    show _ = ((List.range (n.val + 1)).map _).sum
    rw [hr, List.map_cons, List.sum_cons]
    rfl

/-! ## A batch's lengths -/

variable (A : S8x8.Idx → BitVec 32)

/-- The lengths in a row. -/
abbrev flat : S64.Idx → BitVec 32 := shapeCast S64 A shapeCasts_S8x8_S64

theorem flat_at (b i : Fin 8) : flat A (ValueIdx.ix1 (Fin.ofNat 64 (8 * b.val + i.val))) = A (ix2 b i) := by
  have hb := b.isLt
  have hi := i.isLt
  rw [← ix1_eq_valueIdx]
  have : ∀ b i : Fin 8, Shape.reshapeEquiv shapeCasts_S8x8_S64 (ix1 (Fin.ofNat 64 (8 * b.val + i.val))) = ix2 b i := by
    decide +kernel
  exact congrArg A (this b i)

variable {A}

theorem win_lt (hA : Small A) (b : Nat) (l : S16.Idx) : (win (flat A) b l).toNat < 512 := hA _

/-- The batch's own lengths among the sixteen. -/
theorem win_at (b i : Fin 8) : win (flat A) b.val (patch b.val i.val) = A (ix2 b i) := by
  have hb := b.isLt
  have hi := i.isLt
  have hs := skip_le hb
  rw [← flat_at A b i]
  refine congrArg (fun k => flat A (ValueIdx.ix1 k)) (Fin.ext ?_)
  show (win0 b.val + (skip b.val + i.val) % 16) % 64 = (8 * b.val + i.val) % 64
  have : win0 b.val + skip b.val = 8 * b.val := by unfold skip win0; omega
  rw [Nat.mod_eq_of_lt (show skip b.val + i.val < 16 by omega)]
  omega

/-- The patch ends at the sum of the lengths up to its own. -/
theorem endV_at (hA : Small A) (b p : Fin 8) : endV (flat A) b.val (patch b.val p.val) = BitVec.ofNat 32 (cum A b (p.val + 1)) := by
  have hb := b.isLt
  have hp := p.isLt
  have hs := skip_le hb
  have hc := cum_le hA b (p.val + 1)
  have key : ∀ k, k ≤ 8 → ∑ i ∈ Finset.range (skip b.val + k), (win (flat A) b.val (lane (Fin.ofNat 16 i))).toNat
      = ∑ i ∈ Finset.range (skip b.val), (win (flat A) b.val (lane (Fin.ofNat 16 i))).toNat + cum A b k := by
    intro k hk
    rw [Finset.sum_range_add]
    congr 1
    refine Finset.sum_congr rfl fun i hi => ?_
    have hi8 : i < 8 := by have := Finset.mem_range.1 hi; omega
    have := win_at (A := A) b ⟨i, hi8⟩
    have e : (Fin.ofNat 8 i) = ⟨i, hi8⟩ := Fin.ext (Nat.mod_eq_of_lt hi8)
    rw [e, ← this]
    rfl
  have hle : ∑ i ∈ Finset.range (skip b.val), (win (flat A) b.val (lane (Fin.ofNat 16 i))).toNat ≤ 512 * 8 :=
    (Finset.sum_le_card_nsmul _ _ 512 fun i _ => (win_lt hA _ _).le).trans (by
      rw [Finset.card_range, smul_eq_mul]; omega)
  have h1 : scan .sum (win (flat A) b.val) (patch b.val p.val) = BitVec.ofNat 32
      (∑ i ∈ Finset.range (skip b.val), (win (flat A) b.val (lane (Fin.ofNat 16 i))).toNat + cum A b (p.val + 1)) := by
    refine (scan_at _ (win_lt hA _) _).trans ?_
    rw [← key _ (by omega)]
    have : (Fin.ofNat 16 (skip b.val + p.val)).val = skip b.val + p.val := Nat.mod_eq_of_lt (by omega)
    rw [this, Nat.add_assoc]
  have h2 : Scalar.select (Scalar.cmpi .sgt (BitVec.ofNat 32 (skip b.val)) 0#32)
      (scan .sum (win (flat A) b.val) (lane 7)) 0#32
      = BitVec.ofNat 32 (∑ i ∈ Finset.range (skip b.val), (win (flat A) b.val (lane (Fin.ofNat 16 i))).toNat) := by
    have hsk : skip b.val = 0 ∨ skip b.val = 8 := by unfold skip win0; omega
    rcases hsk with h | h
    · rw [h]; rfl
    · rw [h]
      exact scan_at _ (win_lt hA _) 7
  show IntOp.subi (scan .sum (win (flat A) b.val) (patch b.val p.val)) (Scalar.select _ _ _) = _
  rw [h1, h2]
  refine BitVec.eq_of_toNat_eq ?_
  show (BitVec.ofNat 32 _ - BitVec.ofNat 32 _).toNat = _
  simp only [BitVec.toNat_sub, BitVec.toNat_ofNat]
  omega

/-! ## The bounds -/

theorem minsi_ofNat {x c : Nat} (hx : x < 2 ^ 31) (hc : c < 2 ^ 31) :
    IntOp.minsi (BitVec.ofNat 32 x) (BitVec.ofNat 32 c) = BitVec.ofNat 32 (min x c) := by
  refine BitVec.eq_of_toNat_eq ?_
  rw [WordArith.toNat_minsi_of_lt _ _ (by rw [BitVec.toNat_ofNat]; omega) (by rw [BitVec.toNat_ofNat]; omega)]
  simp only [BitVec.toNat_ofNat]
  omega

theorem toV_at (hA : Small A) (b p : Fin 8) :
    toV (flat A) b.val (patch b.val p.val) = BitVec.ofNat 32 (min (cum A b (p.val + 1)) 2048) := by
  have hp := p.isLt
  have hc := cum_le hA b (p.val + 1)
  show IntOp.minsi (endV (flat A) b.val (patch b.val p.val)) (BitVec.ofNat 32 2048) = _
  rw [endV_at hA, minsi_ofNat (by omega) (by omega)]

theorem fromV_at (hA : Small A) (b p : Fin 8) :
    fromV (flat A) b.val (patch b.val p.val) = BitVec.ofNat 32 (min (cum A b p.val) 2048) := by
  have hp := p.isLt
  have hc := cum_le hA b (p.val + 1)
  have hd : cum A b (p.val + 1) = cum A b p.val + (A (ix2 b p)).toNat := by
    have e : Fin.ofNat 8 p.val = p := Fin.ext (Nat.mod_eq_of_lt hp)
    show ∑ i ∈ Finset.range (p.val + 1), _ = _
    rw [Finset.sum_range_succ, e]; rfl
  show IntOp.minsi (IntOp.subi (endV (flat A) b.val (patch b.val p.val)) (win (flat A) b.val (patch b.val p.val)))
    (BitVec.ofNat 32 2048) = _
  have hx : IntOp.subi (BitVec.ofNat 32 (cum A b (p.val + 1))) (A (ix2 b p)) = BitVec.ofNat 32 (cum A b p.val) := by
    refine BitVec.eq_of_toNat_eq ?_
    show (BitVec.ofNat 32 _ - _).toNat = _
    simp only [BitVec.toNat_sub, BitVec.toNat_ofNat]
    have := hA (ix2 b p)
    omega
  rw [endV_at hA, win_at, hx, minsi_ofNat (by omega) (by omega)]

theorem cntV_at (hA : Small A) (b p : Fin 8) : cntV (flat A) b.val (patch b.val p.val)
    = BitVec.ofNat 32 (min (cum A b (p.val + 1)) 2048 - min (cum A b p.val) 2048) := by
  have hm := cum_mono (A := A) b p.val
  show IntOp.subi (toV (flat A) b.val (patch b.val p.val)) (fromV (flat A) b.val (patch b.val p.val)) = _
  rw [toV_at hA, fromV_at hA]
  refine BitVec.eq_of_toNat_eq ?_
  show (BitVec.ofNat 32 _ - BitVec.ofNat 32 _).toNat = _
  simp only [BitVec.toNat_sub, BitVec.toNat_ofNat]
  omega

/-- A number up to 2048, its distance past `y` clipped to `0 … 512`. -/
theorem clip_at {x y : Nat} (hx : x ≤ 2048) (hy : y ≤ 2048) :
    (IntOp.minsi 512#32 (IntOp.maxsi 0#32 (IntOp.subi (BitVec.ofNat 32 x) (BitVec.ofNat 32 y)))).toNat = min 512 (x - y) := by
  have hd : (IntOp.subi (BitVec.ofNat 32 x) (BitVec.ofNat 32 y)).toInt = (x : Int) - y := by
    rw [WordArith.toInt_subi_of_nonneg _ _ (by rw [WordArith.toInt_ofNat_small _ (by omega)]; omega)
      (by rw [WordArith.toInt_ofNat_small _ (by omega)]; omega), WordArith.toInt_ofNat_small _ (by omega),
      WordArith.toInt_ofNat_small _ (by omega)]
  have hm := WordArith.toNat_maxsi_zero (IntOp.subi (BitVec.ofNat 32 x) (BitVec.ofNat 32 y))
  rw [hd] at hm
  rw [WordArith.toNat_minsi_of_lt _ _ (by decide) (by omega), hm,
    show (512#32 : BitVec 32).toNat = 512 from by decide]
  omega

/-- A lane of a quarter's bounds. -/
theorem loV_lane (Ln : S64.Idx → BitVec 32) (b q : Nat) (l : S16.Idx) : loV Ln b q l =
    IntOp.minsi 512#32 (IntOp.maxsi 0#32 (IntOp.subi (fromV Ln b l) (BitVec.ofNat 32 (512 * q)))) := rfl
theorem hiV_lane (Ln : S64.Idx → BitVec 32) (b q : Nat) (l : S16.Idx) : hiV Ln b q l =
    IntOp.minsi 512#32 (IntOp.maxsi 0#32 (IntOp.subi (toV Ln b l) (BitVec.ofNat 32 (512 * q)))) := rfl

theorem loV_at (hA : Small A) (b p : Fin 8) {q : Nat} (hq : q < 4) :
    (loV (flat A) b.val q (patch b.val p.val)).toNat = min 512 (min (cum A b p.val) 2048 - 512 * q) := by
  rw [loV_lane, fromV_at hA, clip_at (by omega) (by omega)]

theorem hiV_at (hA : Small A) (b p : Fin 8) {q : Nat} (hq : q < 4) :
    (hiV (flat A) b.val q (patch b.val p.val)).toNat = min 512 (min (cum A b (p.val + 1)) 2048 - 512 * q) := by
  rw [hiV_lane, toV_at hA, clip_at (by omega) (by omega)]

end Cert.Proof.Pool
-- ==== Proof.Maths.lean ====
/-
  The equation: over the extended reals, where the lengths are below 512, the kernel's result is the reference's. Both
  add up the rows of a patch; the kernel does so in eight runs (two halves of four quarters), the reference in one.
-/
module

public import proofs.«01_k».proof.Proof.Bounds
public import proofs.«01_k».proof.Pre_lengths_in_range

@[expose] public section

noncomputable section

namespace Cert.Proof.Pool

open Cert.KernelIdeal Cert.KernelIdeal.Gen
open Idealize.ShloMosaic
open Cert.Proof.Ref (cum Small cum_le cum_mono)

/-! ## The sums -/

/-- Values added one after the other are their sum. -/
theorem sumRows_eq (f : Nat → Ideal .f32) (z : Ideal .f32) (a b : Nat) :
    sumRows f z a (b - a) = (z + ∑ r ∈ Finset.Ico a b, f r : EReal) := by
  rw [Finset.sum_Ico_eq_sum_range]
  generalize b - a = n
  induction n with
  | zero => simp [sumRows]
  | succ n ih =>
    rw [Finset.sum_range_succ, ← add_assoc, ← ih]
    rfl

/-- A sum over an interval cut at 256. -/
theorem cut_sum (f : Nat → EReal) (lo hi : Nat) :
    ∑ r ∈ Finset.Ico (min lo 256) (min hi 256), f r + ∑ r ∈ Finset.Ico (max lo 256) (max hi 256), f r
      = ∑ r ∈ Finset.Ico lo hi, f r := by
  rcases Nat.le_total lo 256 with h | h <;> rcases Nat.le_total hi 256 with h' | h'
  · rw [Nat.min_eq_left h, Nat.min_eq_left h', Nat.max_eq_right h, Nat.max_eq_right h', Finset.Ico_self, Finset.sum_empty, add_zero]
  · rw [Nat.min_eq_left h, Nat.min_eq_right h', Nat.max_eq_right h, Nat.max_eq_left h', Finset.sum_Ico_consecutive _ h h']
  · rw [Nat.min_eq_right h, Nat.min_eq_left h', Nat.max_eq_left h, Nat.max_eq_right h', Finset.Ico_eq_empty (by omega),
      Finset.Ico_eq_empty (by omega), Finset.Ico_eq_empty (by omega)]
    simp
  · rw [Nat.min_eq_right h, Nat.min_eq_right h', Nat.max_eq_left h, Nat.max_eq_left h', Finset.Ico_self, Finset.sum_empty, zero_add]

/-- A sum over an interval is one over a longer interval from zero, of what lies inside. -/
theorem sum_if (f : Nat → EReal) {lo hi n : Nat} (h : hi ≤ n) :
    ∑ r ∈ Finset.Ico lo hi, f r = ∑ r ∈ Finset.range n, if lo ≤ r ∧ r < hi then f r else 0 := by
  rw [← Finset.sum_filter]
  refine Finset.sum_congr (Finset.ext fun r => ?_) fun _ _ => rfl
  simp only [Finset.mem_Ico, Finset.mem_filter, Finset.mem_range]
  omega

variable {A : S8x8.Idx → BitVec 32} (X : S8x2048x128.Idx → Ideal .f32)

/-- A quarter's sum: that of the patch's rows in the quarter. -/
theorem part_at (hA : Small A) (b p : Fin 8) (c : Nat) {q : Nat} (hq : q < 4) : part X (flat A) b.val q p.val c
    = ∑ r ∈ Finset.range 512, (if cum A b p.val ≤ 512 * q + r ∧ 512 * q + r < cum A b (p.val + 1)
      then rowAt X b.val (512 * q + r) c else 0 : EReal) := by
  have hz : (zeroF : Ideal .f32) = (0 : EReal) := Ideal.ofBits_zero_f32
  unfold part half
  rw [sumRows_eq, sumRows_eq, hz, zero_add, cut_sum, loV_at hA b p hq, hiV_at hA b p hq, sum_if _ (Nat.min_le_left _ _)]
  refine Finset.sum_congr rfl fun r hr => ?_
  have hr := Finset.mem_range.1 hr
  refine if_congr ?_ rfl rfl
  omega

/-- The four quarters' sums together. -/
theorem parts_at (hA : Small A) (b p : Fin 8) (c : Fin 128) :
    (part X (flat A) b.val 0 p.val c.val + part X (flat A) b.val 1 p.val c.val + part X (flat A) b.val 2 p.val c.val
      + part X (flat A) b.val 3 p.val c.val : EReal) = Ref.tot A X (ix3 b p c) := by
  rw [part_at X hA b p c.val (by decide : 0 < 4), part_at X hA b p c.val (by decide : 1 < 4),
    part_at X hA b p c.val (by decide : 2 < 4), part_at X hA b p c.val (by decide : 3 < 4), Ref.tot_at A X hA]
  have hx : ∀ s : Fin 2048, X (ix3 b s c) = rowAt X b.val s.val c.val := by
    intro s
    unfold rowAt
    rw [← ix3_eq_valueIdx]
    have e1 : Fin.ofNat 8 b.val = b := Fin.ext (Nat.mod_eq_of_lt b.isLt)
    have e2 : Fin.ofNat 2048 s.val = s := Fin.ext (Nat.mod_eq_of_lt s.isLt)
    have e3 : Fin.ofNat 128 c.val = c := Fin.ext (Nat.mod_eq_of_lt c.isLt)
    rw [e1, e2, e3]
  simp only [hx]
  rw [← Finset.sum_range (n := 2048) (f := fun s => (if cum A b p.val ≤ s ∧ s < cum A b (p.val + 1)
    then rowAt X b.val s c.val else 0 : EReal))]
  rw [show 2048 = 512 + 512 + 512 + 512 from rfl, Finset.sum_range_add, Finset.sum_range_add, Finset.sum_range_add]
  congr 3

/-- The number of a patch's rows. -/
theorem count_at (hA : Small A) (b p : Fin 8) (c : Fin 128) :
    Ref.cnt A (ix3 b p c) = cntV (flat A) b.val (patch b.val p.val) := by
  have hm := cum_mono (A := A) b p.val
  rw [Ref.cnt_at A hA, cntV_at hA]
  refine congrArg (BitVec.ofNat 32) ?_
  rw [← Finset.sum_range (n := 2048) (f := fun s => if cum A b p.val ≤ s ∧ s < cum A b (p.val + 1) then 1 else 0),
    ← Finset.sum_filter, Finset.sum_const, smul_eq_mul, mul_one, ← Nat.card_Ico]
  refine congrArg Finset.card (Finset.ext fun s => ?_)
  simp only [Finset.mem_Ico, Finset.mem_filter, Finset.mem_range]
  omega

/-! ## The result -/

theorem div_one (x : EReal) : Ideal.div x 1 = x := by
  unfold Ideal.div
  rw [if_neg one_ne_zero, inv_one, mul_one]

/-- The kernel's element is the reference's. -/
theorem mean_at (hA : Small A) (b p : Fin 8) (c : Fin 128) :
    meanAt X (flat A) b.val p.val c.val = Ref.out A X (ix3 b p c) := by
  have hc := cntV_at hA b p
  rw [Ref.out_at A X hA, count_at hA, ← parts_at X hA]
  unfold meanAt mean
  rw [hc]
  generalize hn : min (cum A b (p.val + 1)) 2048 - min (cum A b p.val) 2048 = n
  have hn' : n ≤ 2048 := by omega
  by_cases h : n = 0
  · subst h
    show Ideal.ofBits .f32 0xBF800000#32 = Ideal.div (Ideal.ofBits .f32 0xBF800000#32) (((1#32 : BitVec 32).toInt : ℝ) : EReal)
    have : (((1#32 : BitVec 32).toInt : ℝ) : EReal) = 1 := by
      rw [show (1#32 : BitVec 32).toInt = 1 from by decide]; simp
    rw [this, div_one]
  · have h0 : IntOp.cmpi .eq (BitVec.ofNat 32 n) 0#32 = 0#1 := by
      have : (BitVec.ofNat 32 n == 0#32) = false := by
        rw [beq_eq_false_iff_ne]
        intro e
        have := congrArg BitVec.toNat e
        simp only [BitVec.toNat_ofNat] at this
        omega
      show BitVec.ofBool (BitVec.ofNat 32 n == 0#32) = 0#1
      rw [this]; rfl
    have hx : Scalar.maxsi (BitVec.ofNat 32 n) 1#32 = BitVec.ofNat 32 n := by
      unfold Scalar.maxsi IntOp.maxsi
      split
      · rfl
      · next hs =>
        simp only [BitVec.slt, decide_eq_true_eq] at hs
        rw [WordArith.toInt_ofNat_small n (by omega)] at hs
        have h2 : ¬(1 : Int) < n := hs
        have h1 : n = 1 := by omega
        rw [h1]
    rw [hx]
    show Scalar.select (IntOp.cmpi .eq (BitVec.ofNat 32 n) 0#32) _ _ = _
    rw [h0]
    rfl

/-- The kernel's result is the reference's. -/
theorem means_eq (hA : Small A) : means X (flat A) = Ref.out A X := by
  funext j
  obtain ⟨b, p, c, rfl⟩ : ∃ (b p : Fin 8) (c : Fin 128), j = ix3 b p c :=
    ⟨j 0, j 1, j 2, (ValueIdx.eq_ix3 j).trans (ix3_eq_valueIdx _ _ _).symm⟩
  exact mean_at X hA b p c

/-! ## The precondition -/

/-- Where a conjunction of bits is one, every bit is. -/
theorem fold_andi {ι : Type} [DecidableEq ι] (s : Finset ι) (f : ι → BitVec 1) (h : s.fold IntOp.andi 1#1 f = 1#1) :
    ∀ i ∈ s, f i = 1#1 := by
  induction s using Finset.cons_induction with
  | empty => intro i hi; exact absurd hi (Finset.notMem_empty i)
  | cons a s ha ih =>
    rw [Finset.fold_cons] at h
    have hb : ∀ x y : BitVec 1, IntOp.andi x y = 1#1 → x = 1#1 ∧ y = 1#1 := by decide
    obtain ⟨h1, h2⟩ := hb _ _ h
    intro i hi
    rcases Finset.mem_cons.1 hi with rfl | hi
    · exact h1
    · exact ih h2 i hi

/-- What the precondition says of the lengths. -/
theorem small_of_pre [Cert.Pre_lengths_in_range.Facts] {x : S8x2048x128.Idx → Ideal .f32} {a : S8x8.Idx → BitVec 32}
    (h : Cert.Pre_lengths_in_range.fn (F := Ideal) x a = fun _ => 1#1) : Small a := by
  intro i
  have h0 := congrFun h (ix0)
  unfold Cert.Pre_lengths_in_range.fn at h0
  dsimp only at h0
  rw [Host.reduce_eq_fold] at h0
  have h1 := fold_andi _ _ h0 i (Finset.mem_filter.2 ⟨Finset.mem_univ _, funext fun k => k.elim0⟩)
  change IntOp.andi (BitVec.ofBool (BitVec.sle 0#32 (a i))) (BitVec.ofBool (BitVec.slt (a i) 512#32)) = 1#1 at h1
  rw [WordArith.andi_ofBool, WordArith.ofBool_eq_one_iff, Bool.and_eq_true] at h1
  exact WordArith.toNat_lt_of_zero_sle_of_slt_ofNat (a i) 512 (by decide) h1.1 h1.2

end Cert.Proof.Pool
-- ==== Proof.lean ====
/-
  The certificate of the pooling kernel: the frames of the kernel and of the reference, and the equation between their
  results. Every theorem here only reads a run (`Pool.run_main` of the kernel, `Value.run` of the reference) at the
  buffers a claim names.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Maths
public import Idealize.ShloMosaic.Adequacy
public import Idealize.ShloMosaic.Init

@[expose] public section

noncomputable section

namespace Cert.Proof

open Idealize.ShloMosaic Idealize.SL.Sem

/-- The facts the precondition's operations take. -/
theorem pre_facts : Cert.Pre_lengths_in_range.Facts := ⟨by decide, by decide, by decide⟩

/-- The kernel, over any float values, ends with its arguments unchanged and every counter at zero. -/
theorem kernel_frame {F : FTy → Type} [FloatOps F] [∀ e, Nonempty (Elt F e)]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Pool.run_main m ρ)

/-- The reference ends with its arguments unchanged; it has no semaphores. -/
theorem reference_frame {F : FTy → Type} [FloatOps F]
    (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.1, (h c).2.2⟩, sem_eq_zero_of_no_sems (by decide) r.2⟩) (Cert.ReferenceIdeal.Value.run m ρ)

/-- The machine's kernel: its text is that of the kernel over any float values, read at bit patterns. -/
theorem frame_kernel : Cert.quiescent_Kernel := fun m ρ _ => kernel_frame (F := Bits) m ρ

/-- The kernel's result is the reference's result at the same inputs. -/
theorem out_eq (m : (ℓ : Loc Cert.KernelIdeal.nD Cert.KernelIdeal.τ Cert.KernelIdeal.sig) → Buf (Elt Ideal) ℓ)
    (c : Dev Cert.KernelIdeal.nD) (hA : Ref.Small (m (Pool.aLoc c))) :
    Pool.outVal m c = Ref.out (m (Pool.aLoc c)) (m (Pool.xLoc c)) :=
  Pool.means_eq (m (Pool.xLoc c)) hA

/-- Where the reference's inputs are the kernel's, so is its result. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hA : Ref.Small (m (Pool.aLoc c)))
    (h0 : m' ((c.tc : Thread Cert.ReferenceIdeal.nD Cert.ReferenceIdeal.τ).loc Cert.ReferenceIdeal.main_arg0) = m (Pool.xLoc c))
    (h1 : m' ((c.tc : Thread Cert.ReferenceIdeal.nD Cert.ReferenceIdeal.τ).loc Cert.ReferenceIdeal.main_arg1) = m (Pool.aLoc c)) :
    Cert.ReferenceIdeal.Value.res_main_v33 m' c = Pool.outVal m c :=
  (Ref.res_eq m' c).trans ((congrArg₂ Ref.out h1 h0).trans (out_eq m c hA).symm)

/-- Where the lengths are at least 0 and below 512, the kernel and the reference, over the extended reals, end with the
    same result. -/
theorem same_result : Cert.algebraic_KernelIdeal_ReferenceIdeal_pre_lengths_in_range
    (hPre_lengths_in_range := pre_facts) := fun m g m' g' hpre hagree =>
  ⟨Pool.outVal m,
    (θ_run Cert.KernelIdeal.defs _ _).mono (fun _ h c => ⟨(h.1 c).2.2, (h.1 c).1, (h.1 c).2.1⟩) (Pool.run_main m g),
    (θ_run Cert.ReferenceIdeal.defs _ _).mono
      (fun _ h c => ⟨(h c).1.trans (res_eq m m' c (@Pool.small_of_pre pre_facts _ _ (hpre c)) (hagree c).1 (hagree c).2),
        (h c).2.1, (h c).2.2⟩)
      (Cert.ReferenceIdeal.Value.run m' g')⟩

/-- Every claim. -/
theorem claim : Cert.Claim := ⟨Cert.Kernel.Gen.facts, Cert.KernelIdeal.Gen.facts, Cert.ReferenceIdeal.Gen.facts, pre_facts,
  frame_kernel, fun m ρ _ => kernel_frame m ρ, fun m ρ _ => kernel_frame m ρ,
  fun m ρ _ => reference_frame m ρ, fun m ρ _ => reference_frame m ρ, trivial, same_result⟩

end Cert.Proof

end
